-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4096x50x64 : Shape := ⟨3, ![4096, 50, 64]⟩
abbrev S4096x50 : Shape := ⟨2, ![4096, 50]⟩
abbrev S192x64 : Shape := ⟨2, ![192, 64]⟩
abbrev S192 : Shape := ⟨1, ![192]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : FVec F S4096x50x64 .f32) (main_arg1 : IVec S4096x50 32) (main_arg2 : FVec F S192x64 .f32) (main_arg3 : FVec F S192x64 .f32) (main_arg4 : FVec F S192 .f32) (main_arg5 : FVec F S192 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg1 main_v0
  let main_c_0 : IVec S_ 32 := constantI S_ 32 10#32
  let main_v2 : IVec S4096x50 32 := broadcastInDim S4096x50 ![] bcast_S_S4096x50 main_c_0
  let main_v3 : IVec S4096x50 1 := cmpi .slt main_arg1 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x50x64 : Shape := ⟨3, ![4096, 50, 64]⟩
abbrev S4096x50 : Shape := ⟨2, ![4096, 50]⟩
abbrev S192x64 : Shape := ⟨2, ![192, 64]⟩
abbrev S192 : Shape := ⟨1, ![192]⟩
abbrev S_ : Shape := ⟨0, ![]⟩
abbrev S384x136 : Shape := ⟨2, ![384, 136]⟩
abbrev S1 : Shape := ⟨1, ![1]⟩
abbrev S2 : Shape := ⟨1, ![2]⟩
abbrev S384 : Shape := ⟨1, ![384]⟩
abbrev S4096x3200 : Shape := ⟨2, ![4096, 3200]⟩
abbrev S3200x4096 : Shape := ⟨2, ![3200, 4096]⟩
abbrev S50x4096 : Shape := ⟨2, ![50, 4096]⟩
abbrev S3200x1024 : Shape := ⟨2, ![3200, 1024]⟩
abbrev S50x1024 : Shape := ⟨2, ![50, 1024]⟩
abbrev S10x64x1024 : Shape := ⟨3, ![10, 64, 1024]⟩
abbrev S8x1024 : Shape := ⟨2, ![8, 1024]⟩
abbrev S64x1024 : Shape := ⟨2, ![64, 1024]⟩
abbrev S1x1024 : Shape := ⟨2, ![1, 1024]⟩
abbrev S136x1024 : Shape := ⟨2, ![136, 1024]⟩
abbrev S384x1024 : Shape := ⟨2, ![384, 1024]⟩
abbrev S1x64x1024 : Shape := ⟨3, ![1, 64, 1024]⟩

abbrev nBuf : Space → Nat
  | .hbm => 30
  | .vmem => 8
  | .smem => 0
  | _ => 0

abbrev bufTy : (tb : Table) → Fin (tcTables nBuf tb) → BufTy
  | .hbm, ⟨0, _⟩ => ⟨S4096x50x64, .f32⟩
  | .hbm, ⟨1, _⟩ => ⟨S4096x50, .i32⟩
  | .hbm, ⟨2, _⟩ => ⟨S192x64, .f32⟩
  | .hbm, ⟨3, _⟩ => ⟨S192x64, .f32⟩
  | .hbm, ⟨4, _⟩ => ⟨S192, .f32⟩
  | .hbm, ⟨5, _⟩ => ⟨S192, .f32⟩
  | .hbm, ⟨6, _⟩ => ⟨S_, .f32⟩
  | .hbm, ⟨7, _⟩ => ⟨S384x136, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S384x136, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S384x136, .f32⟩
  | .hbm, ⟨20, _⟩ => ⟨S384, .f32⟩
  | .hbm, ⟨21, _⟩ => ⟨S_, .i32⟩
  | .hbm, ⟨22, _⟩ => ⟨S1, .i32⟩
  | .hbm, ⟨23, _⟩ => ⟨S384x136, .f32⟩
  | .hbm, ⟨24, _⟩ => ⟨S4096x3200, .f32⟩
  | .hbm, ⟨25, _⟩ => ⟨S3200x4096, .f32⟩
  | .hbm, ⟨26, _⟩ => ⟨S50x4096, .i32⟩
  | .hbm, ⟨27, _⟩ => ⟨S3200x4096, .f32⟩
  | .hbm, ⟨28, _⟩ => ⟨S4096x3200, .f32⟩
  | .hbm, ⟨29, _⟩ => ⟨S4096x50x64, .f32⟩
  | .local _ .vmem, ⟨0, _⟩ => ⟨S3200x1024, .f32⟩
  | .local _ .vmem, ⟨1, _⟩ => ⟨S3200x1024, .f32⟩
  | .local _ .vmem, ⟨2, _⟩ => ⟨S50x1024, .i32⟩
  | .local _ .vmem, ⟨3, _⟩ => ⟨S50x1024, .i32⟩
  | .local _ .vmem, ⟨4, _⟩ => ⟨S384x136, .f32⟩
  | .local _ .vmem, ⟨5, _⟩ => ⟨S3200x1024, .f32⟩
  | .local _ .vmem, ⟨6, _⟩ => ⟨S3200x1024, .f32⟩
  | .local _ .vmem, ⟨7, _⟩ => ⟨S10x64x1024, .f32⟩
  | _, _ => ⟨S4096x50x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3200x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S50x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x136 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3200x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x50x64 : Shape := ⟨3, ![4096, 50, 64]⟩
abbrev S4096x50 : Shape := ⟨2, ![4096, 50]⟩
abbrev S192x64 : Shape := ⟨2, ![192, 64]⟩
abbrev S192 : Shape := ⟨1, ![192]⟩
abbrev S_ : Shape := ⟨0, ![]⟩
abbrev S4096x10x64 : Shape := ⟨3, ![4096, 10, 64]⟩
abbrev S4096 : Shape := ⟨1, ![4096]⟩
abbrev S50x4096x64 : Shape := ⟨3, ![50, 4096, 64]⟩
abbrev S50x4096 : Shape := ⟨2, ![50, 4096]⟩
abbrev S1x4096x64 : Shape := ⟨3, ![1, 4096, 64]⟩
abbrev S4096x64 : Shape := ⟨2, ![4096, 64]⟩
abbrev S1x4096 : Shape := ⟨2, ![1, 4096]⟩
abbrev S4096x1 : Shape := ⟨2, ![4096, 1]⟩
abbrev S4096x2 : Shape := ⟨2, ![4096, 2]⟩
abbrev S64x192 : Shape := ⟨2, ![64, 192]⟩
abbrev S4096x192 : Shape := ⟨2, ![4096, 192]⟩
abbrev S1x192 : Shape := ⟨2, ![1, 192]⟩

abbrev nBuf : Space → Nat
  | .hbm => 127
  | .vmem => 0
  | .smem => 0
  | _ => 0

abbrev bufTy : (tb : Table) → Fin (tcTables nBuf tb) → BufTy
  | .hbm, ⟨0, _⟩ => ⟨S4096x50x64, .f32⟩
  | .hbm, ⟨1, _⟩ => ⟨S4096x50, .i32⟩
  | .hbm, ⟨2, _⟩ => ⟨S192x64, .f32⟩
  | .hbm, ⟨3, _⟩ => ⟨S192x64, .f32⟩
  | .hbm, ⟨4, _⟩ => ⟨S192, .f32⟩
  | .hbm, ⟨5, _⟩ => ⟨S192, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S4096x50, .i32⟩
  | .hbm, ⟨10, _⟩ => ⟨S4096x50, .i32⟩
  | .hbm, ⟨11, _⟩ => ⟨S_, .i32⟩
  | .hbm, ⟨12, _⟩ => ⟨S4096x50, .i32⟩
  | .hbm, ⟨13, _⟩ => ⟨S4096x50, .i32⟩
  | .hbm, ⟨14, _⟩ => ⟨S_, .f32⟩
  | .hbm, ⟨15, _⟩ => ⟨S4096x10x64, .f32⟩
  | .hbm, ⟨16, _⟩ => ⟨S4096, .i32⟩
  | .hbm, ⟨17, _⟩ => ⟨S50x4096x64, .f32⟩
  | .hbm, ⟨18, _⟩ => ⟨S50x4096, .i32⟩
  | .hbm, ⟨19, _⟩ => ⟨S_, .f32⟩
  | .hbm, ⟨20, _⟩ => ⟨S50x4096x64, .f32⟩
  | .hbm, ⟨21, _⟩ => ⟨S_, .i32⟩
  | .hbm, ⟨22, _⟩ => ⟨S50x4096x64, .f32⟩
  | .hbm, ⟨23, _⟩ => ⟨S50x4096, .i32⟩
  | .hbm, ⟨24, _⟩ => ⟨S4096, .i32⟩
  | .hbm, ⟨25, _⟩ => ⟨S192x64, .f32⟩
  | .hbm, ⟨26, _⟩ => ⟨S192, .f32⟩
  | .hbm, ⟨27, _⟩ => ⟨S192x64, .f32⟩
  | .hbm, ⟨28, _⟩ => ⟨S192, .f32⟩
  | .hbm, ⟨29, _⟩ => ⟨S_, .i32⟩
  | .hbm, ⟨30, _⟩ => ⟨S4096x10x64, .f32⟩
  | .hbm, ⟨31, _⟩ => ⟨S50x4096x64, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S1x4096x64, .f32⟩
  | .hbm, ⟨37, _⟩ => ⟨S4096x64, .f32⟩
  | .hbm, ⟨38, _⟩ => ⟨S_, .i32⟩
  | .hbm, ⟨39, _⟩ => ⟨S1x4096, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .i32⟩
  | .hbm, ⟨55, _⟩ => ⟨S4096x1, .i32⟩
  | .hbm, ⟨56, _⟩ => ⟨S4096x1, .i32⟩
  | .hbm, ⟨57, _⟩ => ⟨S4096x2, .i32⟩
  | .hbm, ⟨58, _⟩ => ⟨S4096x64, .f32⟩
  | .hbm, ⟨59, _⟩ => ⟨S64x192, .f32⟩
  | .hbm, ⟨60, _⟩ => ⟨S4096x192, .f32⟩
  | .hbm, ⟨61, _⟩ => ⟨S1x192, .f32⟩
  | .hbm, ⟨62, _⟩ => ⟨S4096x192, .f32⟩
  | .hbm, ⟨63, _⟩ => ⟨S4096x192, .f32⟩
  | .hbm, ⟨64, _⟩ => ⟨S64x192, .f32⟩
  | .hbm, ⟨65, _⟩ => ⟨S4096x192, .f32⟩
  | .hbm, ⟨66, _⟩ => ⟨S1x192, .f32⟩
  | .hbm, ⟨67, _⟩ => ⟨S4096x192, .f32⟩
  | .hbm, ⟨68, _⟩ => ⟨S4096x192, .f32⟩
  | .hbm, ⟨69, _⟩ => ⟨S4096x64, .f32⟩
  | .hbm, ⟨70, _⟩ => ⟨S4096x64, .f32⟩
  | .hbm, ⟨71, _⟩ => ⟨S4096x64, .f32⟩
  | .hbm, ⟨72, _⟩ => ⟨S4096x64, .f32⟩
  | .hbm, ⟨73, _⟩ => ⟨S4096x64, .f32⟩
  | .hbm, ⟨74, _⟩ => ⟨S4096x64, .f32⟩
  | .hbm, ⟨75, _⟩ => ⟨S4096x64, .f32⟩
  | .hbm, ⟨76, _⟩ => ⟨S4096x64, .f32⟩
  | .hbm, ⟨77, _⟩ => ⟨S4096x64, .f32⟩
  | .hbm, ⟨78, _⟩ => ⟨S_, .f32⟩
  | .hbm, ⟨79, _⟩ => ⟨S4096x64, .f32⟩
  | .hbm, ⟨80, _⟩ => ⟨S4096x64, .f32⟩
  | .hbm, ⟨81, _⟩ => ⟨S_, .f32⟩
  | .hbm, ⟨82, _⟩ => ⟨S4096x64, .f32⟩
  | .hbm, ⟨83, _⟩ => ⟨S4096x64, .f32⟩
  | .hbm, ⟨84, _⟩ => ⟨S4096x64, .f32⟩
  | .hbm, ⟨85, _⟩ => ⟨S4096x64, .f32⟩
  | .hbm, ⟨86, _⟩ => ⟨S4096x64, .f32⟩
  | .hbm, ⟨87, _⟩ => ⟨S_, .f32⟩
  | .hbm, ⟨88, _⟩ => ⟨S4096x64, .f32⟩
  | .hbm, ⟨89, _⟩ => ⟨S4096x64, .f32⟩
  | .hbm, ⟨90, _⟩ => ⟨S_, .f32⟩
  | .hbm, ⟨91, _⟩ => ⟨S4096x64, .f32⟩
  | .hbm, ⟨92, _⟩ => ⟨S4096x64, .f32⟩
  | .hbm, ⟨93, _⟩ => ⟨S4096x64, .f32⟩
  | .hbm, ⟨94, _⟩ => ⟨S4096x64, .f32⟩
  | .hbm, ⟨95, _⟩ => ⟨S4096x64, .f32⟩
  | .hbm, ⟨96, _⟩ => ⟨S_, .f32⟩
  | .hbm, ⟨97, _⟩ => ⟨S4096x64, .f32⟩
  | .hbm, ⟨98, _⟩ => ⟨S4096x64, .f32⟩
  | .hbm, ⟨99, _⟩ => ⟨S4096x64, .f32⟩
  | .hbm, ⟨100, _⟩ => ⟨S4096x64, .f32⟩
  | .hbm, ⟨101, _⟩ => ⟨S4096x64, .f32⟩
  | .hbm, ⟨102, _⟩ => ⟨S_, .i32⟩
  | .hbm, ⟨103, _⟩ => ⟨S4096, .i32⟩
  | .hbm, ⟨104, _⟩ => ⟨S4096, .i1⟩
  | .hbm, ⟨105, _⟩ => ⟨S_, .i32⟩
  | .hbm, ⟨106, _⟩ => ⟨S4096, .i32⟩
  | .hbm, ⟨107, _⟩ => ⟨S4096, .i32⟩
  | .hbm, ⟨108, _⟩ => ⟨S4096, .i32⟩
  | .hbm, ⟨109, _⟩ => ⟨S_, .i32⟩
  | .hbm, ⟨110, _⟩ => ⟨S4096, .i32⟩
  | .hbm, ⟨111, _⟩ => ⟨S4096, .i1⟩
  | .hbm, ⟨112, _⟩ => ⟨S_, .i32⟩
  | .hbm, ⟨113, _⟩ => ⟨S4096, .i32⟩
  | .hbm, ⟨114, _⟩ => ⟨S4096, .i32⟩
  | .hbm, ⟨115, _⟩ => ⟨S4096, .i32⟩
  | .hbm, ⟨116, _⟩ => ⟨S4096x1, .i32⟩
  | .hbm, ⟨117, _⟩ => ⟨S4096x1, .i32⟩
  | .hbm, ⟨118, _⟩ => ⟨S4096x2, .i32⟩
  | .hbm, ⟨119, _⟩ => ⟨S4096x10x64, .f32⟩
  | .hbm, ⟨120, _⟩ => ⟨S1x4096x64, .f32⟩
  | .hbm, ⟨121, _⟩ => ⟨S_, .i32⟩
  | .hbm, ⟨122, _⟩ => ⟨S_, .i32⟩
  | .hbm, ⟨123, _⟩ => ⟨S50x4096x64, .f32⟩
  | .hbm, ⟨124, _⟩ => ⟨S_, .i32⟩
  | .hbm, ⟨125, _⟩ => ⟨S_, .i32⟩
  | .hbm, ⟨126, _⟩ => ⟨S4096x50x64, .f32⟩
  | _, _ => ⟨S4096x50x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_c_2 : Ref sig .tc := ⟨.hbm, 21, rfl⟩
abbrev main_v6_0 : Ref sig .tc := ⟨.hbm, 22, rfl⟩
abbrev main_v6_1 : Ref sig .tc := ⟨.hbm, 23, rfl⟩
abbrev main_v6_2 : Ref sig .tc := ⟨.hbm, 24, rfl⟩
abbrev main_v6_3 : Ref sig .tc := ⟨.hbm, 25, rfl⟩
abbrev main_v6_4 : Ref sig .tc := ⟨.hbm, 26, rfl⟩
abbrev main_v6_5 : Ref sig .tc := ⟨.hbm, 27, rfl⟩
abbrev main_v6_6 : Ref sig .tc := ⟨.hbm, 28, rfl⟩
abbrev main_v6_7 : Ref sig .tc := ⟨.hbm, 29, rfl⟩
abbrev main_v6_8 : Ref sig .tc := ⟨.hbm, 30, rfl⟩
abbrev main_v6_9 : Ref sig .tc := ⟨.hbm, 31, rfl⟩
abbrev main_while0c_c_12 : Ref sig .tc := ⟨.hbm, 32, rfl⟩
abbrev main_while0c_v8 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_call1_v0 : Ref sig .tc := ⟨.hbm, 36, rfl⟩
abbrev main_while0b_v8 : Ref sig .tc := ⟨.hbm, 37, rfl⟩
abbrev main_while0b_call2_c : Ref sig .tc := ⟨.hbm, 38, rfl⟩
abbrev main_while0b_call2_v0 : Ref sig .tc := ⟨.hbm, 39, rfl⟩
abbrev main_while0b_v9 : Ref sig .tc := ⟨.hbm, 40, rfl⟩
abbrev main_while0b_c_12 : Ref sig .tc := ⟨.hbm, 41, rfl⟩
abbrev main_while0b_v10 : Ref sig .tc := ⟨.hbm, 42, rfl⟩
abbrev main_while0b_v11 : Ref sig .tc := ⟨.hbm, 43, rfl⟩
abbrev main_while0b_c_13 : Ref sig .tc := ⟨.hbm, 44, rfl⟩
abbrev main_while0b_v12 : Ref sig .tc := ⟨.hbm, 45, rfl⟩
abbrev main_while0b_v13 : Ref sig .tc := ⟨.hbm, 46, rfl⟩
abbrev main_while0b_v14 : Ref sig .tc := ⟨.hbm, 47, rfl⟩
abbrev main_while0b_c_14 : Ref sig .tc := ⟨.hbm, 48, rfl⟩
abbrev main_while0b_v15 : Ref sig .tc := ⟨.hbm, 49, rfl⟩
abbrev main_while0b_v16 : Ref sig .tc := ⟨.hbm, 50, rfl⟩
abbrev main_while0b_c_15 : Ref sig .tc := ⟨.hbm, 51, rfl⟩
abbrev main_while0b_v17 : Ref sig .tc := ⟨.hbm, 52, rfl⟩
abbrev main_while0b_v18 : Ref sig .tc := ⟨.hbm, 53, rfl⟩
abbrev main_while0b_v19 : Ref sig .tc := ⟨.hbm, 54, rfl⟩
abbrev main_while0b_v20 : Ref sig .tc := ⟨.hbm, 55, rfl⟩
abbrev main_while0b_v21 : Ref sig .tc := ⟨.hbm, 56, rfl⟩
abbrev main_while0b_v22 : Ref sig .tc := ⟨.hbm, 57, rfl⟩
abbrev main_while0b_v23 : Ref sig .tc := ⟨.hbm, 58, rfl⟩
abbrev main_while0b_v24 : Ref sig .tc := ⟨.hbm, 59, rfl⟩
abbrev main_while0b_v25 : Ref sig .tc := ⟨.hbm, 60, rfl⟩
abbrev main_while0b_v26 : Ref sig .tc := ⟨.hbm, 61, rfl⟩
abbrev main_while0b_v27 : Ref sig .tc := ⟨.hbm, 62, rfl⟩
abbrev main_while0b_v28 : Ref sig .tc := ⟨.hbm, 63, rfl⟩
abbrev main_while0b_v29 : Ref sig .tc := ⟨.hbm, 64, rfl⟩
abbrev main_while0b_v30 : Ref sig .tc := ⟨.hbm, 65, rfl⟩
abbrev main_while0b_v31 : Ref sig .tc := ⟨.hbm, 66, rfl⟩
abbrev main_while0b_v32 : Ref sig .tc := ⟨.hbm, 67, rfl⟩
abbrev main_while0b_v33 : Ref sig .tc := ⟨.hbm, 68, rfl⟩
abbrev main_while0b_v34 : Ref sig .tc := ⟨.hbm, 69, rfl⟩
abbrev main_while0b_v35 : Ref sig .tc := ⟨.hbm, 70, rfl⟩
abbrev main_while0b_v36 : Ref sig .tc := ⟨.hbm, 71, rfl⟩
abbrev main_while0b_v37 : Ref sig .tc := ⟨.hbm, 72, rfl⟩
abbrev main_while0b_v38 : Ref sig .tc := ⟨.hbm, 73, rfl⟩
abbrev main_while0b_v39 : Ref sig .tc := ⟨.hbm, 74, rfl⟩
abbrev main_while0b_v40 : Ref sig .tc := ⟨.hbm, 75, rfl⟩
abbrev main_while0b_v41 : Ref sig .tc := ⟨.hbm, 76, rfl⟩
abbrev main_while0b_v42 : Ref sig .tc := ⟨.hbm, 77, rfl⟩
abbrev main_while0b_cst_16 : Ref sig .tc := ⟨.hbm, 78, rfl⟩
abbrev main_while0b_v43 : Ref sig .tc := ⟨.hbm, 79, rfl⟩
abbrev main_while0b_v44 : Ref sig .tc := ⟨.hbm, 80, rfl⟩
abbrev main_while0b_cst_17 : Ref sig .tc := ⟨.hbm, 81, rfl⟩
abbrev main_while0b_v45 : Ref sig .tc := ⟨.hbm, 82, rfl⟩
abbrev main_while0b_v46 : Ref sig .tc := ⟨.hbm, 83, rfl⟩
abbrev main_while0b_v47 : Ref sig .tc := ⟨.hbm, 84, rfl⟩
abbrev main_while0b_v48 : Ref sig .tc := ⟨.hbm, 85, rfl⟩
abbrev main_while0b_v49 : Ref sig .tc := ⟨.hbm, 86, rfl⟩
abbrev main_while0b_cst_18 : Ref sig .tc := ⟨.hbm, 87, rfl⟩
abbrev main_while0b_v50 : Ref sig .tc := ⟨.hbm, 88, rfl⟩
abbrev main_while0b_v51 : Ref sig .tc := ⟨.hbm, 89, rfl⟩
abbrev main_while0b_cst_19 : Ref sig .tc := ⟨.hbm, 90, rfl⟩
abbrev main_while0b_v52 : Ref sig .tc := ⟨.hbm, 91, rfl⟩
abbrev main_while0b_v53 : Ref sig .tc := ⟨.hbm, 92, rfl⟩
abbrev main_while0b_v54 : Ref sig .tc := ⟨.hbm, 93, rfl⟩
abbrev main_while0b_v55 : Ref sig .tc := ⟨.hbm, 94, rfl⟩
abbrev main_while0b_v56 : Ref sig .tc := ⟨.hbm, 95, rfl⟩
abbrev main_while0b_cst_20 : Ref sig .tc := ⟨.hbm, 96, rfl⟩
abbrev main_while0b_v57 : Ref sig .tc := ⟨.hbm, 97, rfl⟩
abbrev main_while0b_v58 : Ref sig .tc := ⟨.hbm, 98, rfl⟩
abbrev main_while0b_v59 : Ref sig .tc := ⟨.hbm, 99, rfl⟩
abbrev main_while0b_v60 : Ref sig .tc := ⟨.hbm, 100, rfl⟩
abbrev main_while0b_v61 : Ref sig .tc := ⟨.hbm, 101, rfl⟩
abbrev main_while0b_c_21 : Ref sig .tc := ⟨.hbm, 102, rfl⟩
abbrev main_while0b_v62 : Ref sig .tc := ⟨.hbm, 103, rfl⟩
abbrev main_while0b_v63 : Ref sig .tc := ⟨.hbm, 104, rfl⟩
abbrev main_while0b_c_22 : Ref sig .tc := ⟨.hbm, 105, rfl⟩
abbrev main_while0b_v64 : Ref sig .tc := ⟨.hbm, 106, rfl⟩
abbrev main_while0b_v65 : Ref sig .tc := ⟨.hbm, 107, rfl⟩
abbrev main_while0b_v66 : Ref sig .tc := ⟨.hbm, 108, rfl⟩
abbrev main_while0b_c_23 : Ref sig .tc := ⟨.hbm, 109, rfl⟩
abbrev main_while0b_v67 : Ref sig .tc := ⟨.hbm, 110, rfl⟩
abbrev main_while0b_v68 : Ref sig .tc := ⟨.hbm, 111, rfl⟩
abbrev main_while0b_c_24 : Ref sig .tc := ⟨.hbm, 112, rfl⟩
abbrev main_while0b_v69 : Ref sig .tc := ⟨.hbm, 113, rfl⟩
abbrev main_while0b_v70 : Ref sig .tc := ⟨.hbm, 114, rfl⟩
abbrev main_while0b_v71 : Ref sig .tc := ⟨.hbm, 115, rfl⟩
abbrev main_while0b_v72 : Ref sig .tc := ⟨.hbm, 116, rfl⟩
abbrev main_while0b_v73 : Ref sig .tc := ⟨.hbm, 117, rfl⟩
abbrev main_while0b_v74 : Ref sig .tc := ⟨.hbm, 118, rfl⟩
abbrev main_while0b_v75 : Ref sig .tc := ⟨.hbm, 119, rfl⟩
abbrev main_while0b_call3_v0 : Ref sig .tc := ⟨.hbm, 120, rfl⟩
abbrev main_while0b_call3_c : Ref sig .tc := ⟨.hbm, 121, rfl⟩
abbrev main_while0b_call3_c_0 : Ref sig .tc := ⟨.hbm, 122, rfl⟩
abbrev main_while0b_v76 : Ref sig .tc := ⟨.hbm, 123, rfl⟩
abbrev main_while0b_c_25 : Ref sig .tc := ⟨.hbm, 124, rfl⟩
abbrev main_while0b_v77 : Ref sig .tc := ⟨.hbm, 125, rfl⟩
abbrev main_v7 : Ref sig .tc := ⟨.hbm, 126, rfl⟩

abbrev nD : Nat := 1
abbrev τ : Topo := Topo.v7x

variable {F : FTy → Type} [FloatOps F]

abbrev main_while0_count : Scf.Loop 32 := ⟨0#32, 50#32, 1#32⟩
-- ==== Proof.RefStep.lean ====
/- One trip of the reference's loop as definitions: what a trip hands the next, the values made before the loop, each operation of
   the body as a value of the trip's number and the state, the first state, and the step. -/
module

public import proofs.«01_k».proof.ReferenceIdeal
public import proofs.«01_k».proof.Proof.Gen.ReferenceIdeal

@[expose] public section

noncomputable section

namespace Cert.RefStep

open Idealize.ShloMosaic Cert.ReferenceIdeal Cert.ReferenceIdeal.Gen

variable {F : FTy → Type} [FloatOps F]

/-- What a trip hands the next. -/
structure State (F : FTy → Type) [FloatOps F] where
  main_v6_8 : (⟨S4096x10x64, .f32⟩ : BufTy).Contents (Elt F)
  main_v6_9 : (⟨S50x4096x64, .f32⟩ : BufTy).Contents (Elt F)
  main_v6_0 : (⟨S50x4096x64, .f32⟩ : BufTy).Contents (Elt F)
  main_v6_1 : (⟨S50x4096, .i32⟩ : BufTy).Contents (Elt F)
  main_v6_3 : (⟨S192x64, .f32⟩ : BufTy).Contents (Elt F)
  main_v6_4 : (⟨S192, .f32⟩ : BufTy).Contents (Elt F)
  main_v6_5 : (⟨S192x64, .f32⟩ : BufTy).Contents (Elt F)
  main_v6_6 : (⟨S192, .f32⟩ : BufTy).Contents (Elt F)

/-! What @main computes before the loop without reading an argument. -/

def K_main_c : (⟨S_, .i32⟩ : BufTy).Contents (Elt F) := constantI S_ 32 0#32
def K_main_c_0 : (⟨S_, .i32⟩ : BufTy).Contents (Elt F) := constantI S_ 32 9#32
def K_main_call0_v0 : (⟨S_, .i32⟩ : BufTy).Contents (Elt F) := id ((K_main_c (F := F)))
def K_main_call0_v1 : (⟨S4096x50, .i32⟩ : BufTy).Contents (Elt F) := broadcastInDim S4096x50 ![] bcast_S_S4096x50 ((K_main_call0_v0 (F := F)))
def K_main_call0_v3 : (⟨S_, .i32⟩ : BufTy).Contents (Elt F) := id ((K_main_c_0 (F := F)))
def K_main_call0_v4 : (⟨S4096x50, .i32⟩ : BufTy).Contents (Elt F) := broadcastInDim S4096x50 ![] bcast_S_S4096x50 ((K_main_call0_v3 (F := F)))
def K_main_cst : (⟨S_, .f32⟩ : BufTy).Contents (Elt F) := constant S_ .f32 0x00000000#32
def K_main_v1 : (⟨S4096x10x64, .f32⟩ : BufTy).Contents (Elt F) := broadcastInDim S4096x10x64 ![] bcast_S_S4096x10x64 ((K_main_cst (F := F)))
def K_main_v2 : (⟨S4096, .i32⟩ : BufTy).Contents (Elt F) := iotaInDim S4096 32 0
def K_main_cst_1 : (⟨S_, .f32⟩ : BufTy).Contents (Elt F) := constant S_ .f32 0x00000000#32
def K_main_v5 : (⟨S50x4096x64, .f32⟩ : BufTy).Contents (Elt F) := broadcastInDim S50x4096x64 ![] bcast_S_S50x4096x64 ((K_main_cst_1 (F := F)))
def K_main_c_2 : (⟨S_, .i32⟩ : BufTy).Contents (Elt F) := constantI S_ 32 0#32

/-! What @main computes before the loop from its arguments, as functions of them. -/

def A_main_call0_v2 (main_arg0 : (⟨S4096x50x64, .f32⟩ : BufTy).Contents (Elt F)) (main_arg1 : (⟨S4096x50, .i32⟩ : BufTy).Contents (Elt F)) : (⟨S4096x50, .i32⟩ : BufTy).Contents (Elt F) := maxsi ((K_main_call0_v1 (F := F))) (main_arg1)
def A_main_v0 (main_arg0 : (⟨S4096x50x64, .f32⟩ : BufTy).Contents (Elt F)) (main_arg1 : (⟨S4096x50, .i32⟩ : BufTy).Contents (Elt F)) : (⟨S4096x50, .i32⟩ : BufTy).Contents (Elt F) := minsi ((K_main_call0_v4 (F := F))) ((A_main_call0_v2 main_arg0 main_arg1))
def A_main_v3 (main_arg0 : (⟨S4096x50x64, .f32⟩ : BufTy).Contents (Elt F)) (main_arg1 : (⟨S4096x50, .i32⟩ : BufTy).Contents (Elt F)) : (⟨S50x4096x64, .f32⟩ : BufTy).Contents (Elt F) := transpose S50x4096x64 [1, 0, 2] (main_arg0) transposes_S4096x50x64_S50x4096x64_1_0_2
def A_main_v4 (main_arg0 : (⟨S4096x50x64, .f32⟩ : BufTy).Contents (Elt F)) (main_arg1 : (⟨S4096x50, .i32⟩ : BufTy).Contents (Elt F)) : (⟨S50x4096, .i32⟩ : BufTy).Contents (Elt F) := transpose S50x4096 [1, 0] ((A_main_v0 main_arg0 main_arg1)) transposes_S4096x50_S50x4096_1_0

/-! One trip's values, in the body's order. -/

def b0 (j : ℕ) (s : State F) : (⟨S_, .i32⟩ : BufTy).Contents (Elt F) :=
  constantI S_ 32 0#32
def b1 (j : ℕ) (s : State F) : (⟨S_, .i32⟩ : BufTy).Contents (Elt F) :=
  constantI S_ 32 0#32
def b2 (j : ℕ) (s : State F) : (⟨S1x4096x64, .f32⟩ : BufTy).Contents (Elt F) :=
  Host.dynamicSlice S1x4096x64 (s.main_v6_0) (fun k => (((![(constantI S_ 32 (BitVec.ofNat 32 j) : (⟨S_, .i32⟩ : BufTy).Contents (Elt F)), (b0 j s), (b1 j s)] : Fin 3 → (⟨S_, .i32⟩ : BufTy).Contents (Elt F))) k (Shape.Idx.first h_S_)).toInt) sliceFits_S50x4096x64_S1x4096x64
def b3 (j : ℕ) (s : State F) : (⟨S4096x64, .f32⟩ : BufTy).Contents (Elt F) :=
  shapeCast S4096x64 ((b2 j s)) shapeCasts_S1x4096x64_S4096x64
def b4 (j : ℕ) (s : State F) : (⟨S_, .i32⟩ : BufTy).Contents (Elt F) :=
  constantI S_ 32 0#32
def b5 (j : ℕ) (s : State F) : (⟨S1x4096, .i32⟩ : BufTy).Contents (Elt F) :=
  Host.dynamicSlice S1x4096 (s.main_v6_1) (fun k => (((![(constantI S_ 32 (BitVec.ofNat 32 j) : (⟨S_, .i32⟩ : BufTy).Contents (Elt F)), (b4 j s)] : Fin 2 → (⟨S_, .i32⟩ : BufTy).Contents (Elt F))) k (Shape.Idx.first h_S_)).toInt) sliceFits_S50x4096_S1x4096
def b6 (j : ℕ) (s : State F) : (⟨S4096, .i32⟩ : BufTy).Contents (Elt F) :=
  shapeCast S4096 ((b5 j s)) shapeCasts_S1x4096_S4096
def b7 (j : ℕ) (s : State F) : (⟨S_, .i32⟩ : BufTy).Contents (Elt F) :=
  constantI S_ 32 0#32
def b8 (j : ℕ) (s : State F) : (⟨S4096, .i32⟩ : BufTy).Contents (Elt F) :=
  broadcastInDim S4096 ![] bcast_S_S4096 ((b7 j s))
def b9 (j : ℕ) (s : State F) : (⟨S4096, .i1⟩ : BufTy).Contents (Elt F) :=
  cmpi .slt ((K_main_v2 (F := F))) ((b8 j s))
def b10 (j : ℕ) (s : State F) : (⟨S_, .i32⟩ : BufTy).Contents (Elt F) :=
  constantI S_ 32 4096#32
def b11 (j : ℕ) (s : State F) : (⟨S4096, .i32⟩ : BufTy).Contents (Elt F) :=
  broadcastInDim S4096 ![] bcast_S_S4096 ((b10 j s))
def b12 (j : ℕ) (s : State F) : (⟨S4096, .i32⟩ : BufTy).Contents (Elt F) :=
  addi ((K_main_v2 (F := F))) ((b11 j s))
def b13 (j : ℕ) (s : State F) : (⟨S4096, .i32⟩ : BufTy).Contents (Elt F) :=
  select ((b9 j s)) ((b12 j s)) ((K_main_v2 (F := F)))
def b14 (j : ℕ) (s : State F) : (⟨S_, .i32⟩ : BufTy).Contents (Elt F) :=
  constantI S_ 32 0#32
def b15 (j : ℕ) (s : State F) : (⟨S4096, .i32⟩ : BufTy).Contents (Elt F) :=
  broadcastInDim S4096 ![] bcast_S_S4096 ((b14 j s))
def b16 (j : ℕ) (s : State F) : (⟨S4096, .i1⟩ : BufTy).Contents (Elt F) :=
  cmpi .slt ((b6 j s)) ((b15 j s))
def b17 (j : ℕ) (s : State F) : (⟨S_, .i32⟩ : BufTy).Contents (Elt F) :=
  constantI S_ 32 10#32
def b18 (j : ℕ) (s : State F) : (⟨S4096, .i32⟩ : BufTy).Contents (Elt F) :=
  broadcastInDim S4096 ![] bcast_S_S4096 ((b17 j s))
def b19 (j : ℕ) (s : State F) : (⟨S4096, .i32⟩ : BufTy).Contents (Elt F) :=
  addi ((b6 j s)) ((b18 j s))
def b20 (j : ℕ) (s : State F) : (⟨S4096, .i32⟩ : BufTy).Contents (Elt F) :=
  select ((b16 j s)) ((b19 j s)) ((b6 j s))
def b21 (j : ℕ) (s : State F) : (⟨S4096x1, .i32⟩ : BufTy).Contents (Elt F) :=
  broadcastInDim S4096x1 ![0] bcast_S4096_S4096x1_0 ((b13 j s))
def b22 (j : ℕ) (s : State F) : (⟨S4096x1, .i32⟩ : BufTy).Contents (Elt F) :=
  broadcastInDim S4096x1 ![0] bcast_S4096_S4096x1_0 ((b20 j s))
def b23 (j : ℕ) (s : State F) : (⟨S4096x2, .i32⟩ : BufTy).Contents (Elt F) :=
  concatenate S4096x2 1 [⟨S4096x1, ((b21 j s))⟩, ⟨S4096x1, ((b22 j s))⟩] concatenates_S4096x1_S4096x1_S4096x2_d1
def b24 (j : ℕ) (s : State F) : (⟨S4096x64, .f32⟩ : BufTy).Contents (Elt F) :=
  Host.gather gather_S4096x10x64_S4096x2_S4096x64_1_01_n_n_01_1_1164 (s.main_v6_8) ((b23 j s))
def b25 (j : ℕ) (s : State F) : (⟨S64x192, .f32⟩ : BufTy).Contents (Elt F) :=
  transpose S64x192 [1, 0] (s.main_v6_3) transposes_S192x64_S64x192_1_0
def b26 (j : ℕ) (s : State F) : (⟨S4096x192, .f32⟩ : BufTy).Contents (Elt F) :=
  Host.dotGeneral dot_S4096x64_S64x192_S4096x192_1_0_0_1_n_n none ((b3 j s)) ((b25 j s))
def b27 (j : ℕ) (s : State F) : (⟨S1x192, .f32⟩ : BufTy).Contents (Elt F) :=
  broadcastInDim S1x192 ![1] bcast_S192_S1x192_1 (s.main_v6_4)
def b28 (j : ℕ) (s : State F) : (⟨S4096x192, .f32⟩ : BufTy).Contents (Elt F) :=
  broadcastInDim S4096x192 ![0, 1] bcast_S1x192_S4096x192_0_1 ((b27 j s))
def b29 (j : ℕ) (s : State F) : (⟨S4096x192, .f32⟩ : BufTy).Contents (Elt F) :=
  addf ((b26 j s)) ((b28 j s))
def b30 (j : ℕ) (s : State F) : (⟨S64x192, .f32⟩ : BufTy).Contents (Elt F) :=
  transpose S64x192 [1, 0] (s.main_v6_5) transposes_S192x64_S64x192_1_0
def b31 (j : ℕ) (s : State F) : (⟨S4096x192, .f32⟩ : BufTy).Contents (Elt F) :=
  Host.dotGeneral dot_S4096x64_S64x192_S4096x192_1_0_0_1_n_n none ((b24 j s)) ((b30 j s))
def b32 (j : ℕ) (s : State F) : (⟨S1x192, .f32⟩ : BufTy).Contents (Elt F) :=
  broadcastInDim S1x192 ![1] bcast_S192_S1x192_1 (s.main_v6_6)
def b33 (j : ℕ) (s : State F) : (⟨S4096x192, .f32⟩ : BufTy).Contents (Elt F) :=
  broadcastInDim S4096x192 ![0, 1] bcast_S1x192_S4096x192_0_1 ((b32 j s))
def b34 (j : ℕ) (s : State F) : (⟨S4096x192, .f32⟩ : BufTy).Contents (Elt F) :=
  addf ((b31 j s)) ((b33 j s))
def b35 (j : ℕ) (s : State F) : (⟨S4096x64, .f32⟩ : BufTy).Contents (Elt F) :=
  extractStridedSlice S4096x64 ![0, 0] ((b29 j s)) slices_S4096x192_S4096x64_0_0
def b36 (j : ℕ) (s : State F) : (⟨S4096x64, .f32⟩ : BufTy).Contents (Elt F) :=
  extractStridedSlice S4096x64 ![0, 64] ((b29 j s)) slices_S4096x192_S4096x64_0_64
def b37 (j : ℕ) (s : State F) : (⟨S4096x64, .f32⟩ : BufTy).Contents (Elt F) :=
  extractStridedSlice S4096x64 ![0, 128] ((b29 j s)) slices_S4096x192_S4096x64_0_128
def b38 (j : ℕ) (s : State F) : (⟨S4096x64, .f32⟩ : BufTy).Contents (Elt F) :=
  extractStridedSlice S4096x64 ![0, 0] ((b34 j s)) slices_S4096x192_S4096x64_0_0
def b39 (j : ℕ) (s : State F) : (⟨S4096x64, .f32⟩ : BufTy).Contents (Elt F) :=
  extractStridedSlice S4096x64 ![0, 64] ((b34 j s)) slices_S4096x192_S4096x64_0_64
def b40 (j : ℕ) (s : State F) : (⟨S4096x64, .f32⟩ : BufTy).Contents (Elt F) :=
  extractStridedSlice S4096x64 ![0, 128] ((b34 j s)) slices_S4096x192_S4096x64_0_128
def b41 (j : ℕ) (s : State F) : (⟨S4096x64, .f32⟩ : BufTy).Contents (Elt F) :=
  addf ((b35 j s)) ((b38 j s))
def b42 (j : ℕ) (s : State F) : (⟨S4096x64, .f32⟩ : BufTy).Contents (Elt F) :=
  Host.negf ((b41 j s))
def b43 (j : ℕ) (s : State F) : (⟨S4096x64, .f32⟩ : BufTy).Contents (Elt F) :=
  Host.exp ((b42 j s))
def b44 (j : ℕ) (s : State F) : (⟨S_, .f32⟩ : BufTy).Contents (Elt F) :=
  constant S_ .f32 0x3F800000#32
def b45 (j : ℕ) (s : State F) : (⟨S4096x64, .f32⟩ : BufTy).Contents (Elt F) :=
  broadcastInDim S4096x64 ![] bcast_S_S4096x64 ((b44 j s))
def b46 (j : ℕ) (s : State F) : (⟨S4096x64, .f32⟩ : BufTy).Contents (Elt F) :=
  addf ((b45 j s)) ((b43 j s))
def b47 (j : ℕ) (s : State F) : (⟨S_, .f32⟩ : BufTy).Contents (Elt F) :=
  constant S_ .f32 0x3F800000#32
def b48 (j : ℕ) (s : State F) : (⟨S4096x64, .f32⟩ : BufTy).Contents (Elt F) :=
  broadcastInDim S4096x64 ![] bcast_S_S4096x64 ((b47 j s))
def b49 (j : ℕ) (s : State F) : (⟨S4096x64, .f32⟩ : BufTy).Contents (Elt F) :=
  Host.divf ((b48 j s)) ((b46 j s))
def b50 (j : ℕ) (s : State F) : (⟨S4096x64, .f32⟩ : BufTy).Contents (Elt F) :=
  addf ((b36 j s)) ((b39 j s))
def b51 (j : ℕ) (s : State F) : (⟨S4096x64, .f32⟩ : BufTy).Contents (Elt F) :=
  Host.negf ((b50 j s))
def b52 (j : ℕ) (s : State F) : (⟨S4096x64, .f32⟩ : BufTy).Contents (Elt F) :=
  Host.exp ((b51 j s))
def b53 (j : ℕ) (s : State F) : (⟨S_, .f32⟩ : BufTy).Contents (Elt F) :=
  constant S_ .f32 0x3F800000#32
def b54 (j : ℕ) (s : State F) : (⟨S4096x64, .f32⟩ : BufTy).Contents (Elt F) :=
  broadcastInDim S4096x64 ![] bcast_S_S4096x64 ((b53 j s))
def b55 (j : ℕ) (s : State F) : (⟨S4096x64, .f32⟩ : BufTy).Contents (Elt F) :=
  addf ((b54 j s)) ((b52 j s))
def b56 (j : ℕ) (s : State F) : (⟨S_, .f32⟩ : BufTy).Contents (Elt F) :=
  constant S_ .f32 0x3F800000#32
def b57 (j : ℕ) (s : State F) : (⟨S4096x64, .f32⟩ : BufTy).Contents (Elt F) :=
  broadcastInDim S4096x64 ![] bcast_S_S4096x64 ((b56 j s))
def b58 (j : ℕ) (s : State F) : (⟨S4096x64, .f32⟩ : BufTy).Contents (Elt F) :=
  Host.divf ((b57 j s)) ((b55 j s))
def b59 (j : ℕ) (s : State F) : (⟨S4096x64, .f32⟩ : BufTy).Contents (Elt F) :=
  mulf ((b49 j s)) ((b40 j s))
def b60 (j : ℕ) (s : State F) : (⟨S4096x64, .f32⟩ : BufTy).Contents (Elt F) :=
  addf ((b37 j s)) ((b59 j s))
def b61 (j : ℕ) (s : State F) : (⟨S4096x64, .f32⟩ : BufTy).Contents (Elt F) :=
  Host.tanh ((b60 j s))
def b62 (j : ℕ) (s : State F) : (⟨S_, .f32⟩ : BufTy).Contents (Elt F) :=
  constant S_ .f32 0x3F800000#32
def b63 (j : ℕ) (s : State F) : (⟨S4096x64, .f32⟩ : BufTy).Contents (Elt F) :=
  broadcastInDim S4096x64 ![] bcast_S_S4096x64 ((b62 j s))
def b64 (j : ℕ) (s : State F) : (⟨S4096x64, .f32⟩ : BufTy).Contents (Elt F) :=
  subf ((b63 j s)) ((b58 j s))
def b65 (j : ℕ) (s : State F) : (⟨S4096x64, .f32⟩ : BufTy).Contents (Elt F) :=
  mulf ((b64 j s)) ((b61 j s))
def b66 (j : ℕ) (s : State F) : (⟨S4096x64, .f32⟩ : BufTy).Contents (Elt F) :=
  mulf ((b58 j s)) ((b24 j s))
def b67 (j : ℕ) (s : State F) : (⟨S4096x64, .f32⟩ : BufTy).Contents (Elt F) :=
  addf ((b65 j s)) ((b66 j s))
def b68 (j : ℕ) (s : State F) : (⟨S_, .i32⟩ : BufTy).Contents (Elt F) :=
  constantI S_ 32 0#32
def b69 (j : ℕ) (s : State F) : (⟨S4096, .i32⟩ : BufTy).Contents (Elt F) :=
  broadcastInDim S4096 ![] bcast_S_S4096 ((b68 j s))
def b70 (j : ℕ) (s : State F) : (⟨S4096, .i1⟩ : BufTy).Contents (Elt F) :=
  cmpi .slt ((K_main_v2 (F := F))) ((b69 j s))
def b71 (j : ℕ) (s : State F) : (⟨S_, .i32⟩ : BufTy).Contents (Elt F) :=
  constantI S_ 32 4096#32
def b72 (j : ℕ) (s : State F) : (⟨S4096, .i32⟩ : BufTy).Contents (Elt F) :=
  broadcastInDim S4096 ![] bcast_S_S4096 ((b71 j s))
def b73 (j : ℕ) (s : State F) : (⟨S4096, .i32⟩ : BufTy).Contents (Elt F) :=
  addi ((K_main_v2 (F := F))) ((b72 j s))
def b74 (j : ℕ) (s : State F) : (⟨S4096, .i32⟩ : BufTy).Contents (Elt F) :=
  select ((b70 j s)) ((b73 j s)) ((K_main_v2 (F := F)))
def b75 (j : ℕ) (s : State F) : (⟨S_, .i32⟩ : BufTy).Contents (Elt F) :=
  constantI S_ 32 0#32
def b76 (j : ℕ) (s : State F) : (⟨S4096, .i32⟩ : BufTy).Contents (Elt F) :=
  broadcastInDim S4096 ![] bcast_S_S4096 ((b75 j s))
def b77 (j : ℕ) (s : State F) : (⟨S4096, .i1⟩ : BufTy).Contents (Elt F) :=
  cmpi .slt ((b6 j s)) ((b76 j s))
def b78 (j : ℕ) (s : State F) : (⟨S_, .i32⟩ : BufTy).Contents (Elt F) :=
  constantI S_ 32 10#32
def b79 (j : ℕ) (s : State F) : (⟨S4096, .i32⟩ : BufTy).Contents (Elt F) :=
  broadcastInDim S4096 ![] bcast_S_S4096 ((b78 j s))
def b80 (j : ℕ) (s : State F) : (⟨S4096, .i32⟩ : BufTy).Contents (Elt F) :=
  addi ((b6 j s)) ((b79 j s))
def b81 (j : ℕ) (s : State F) : (⟨S4096, .i32⟩ : BufTy).Contents (Elt F) :=
  select ((b77 j s)) ((b80 j s)) ((b6 j s))
def b82 (j : ℕ) (s : State F) : (⟨S4096x1, .i32⟩ : BufTy).Contents (Elt F) :=
  broadcastInDim S4096x1 ![0] bcast_S4096_S4096x1_0 ((b74 j s))
def b83 (j : ℕ) (s : State F) : (⟨S4096x1, .i32⟩ : BufTy).Contents (Elt F) :=
  broadcastInDim S4096x1 ![0] bcast_S4096_S4096x1_0 ((b81 j s))
def b84 (j : ℕ) (s : State F) : (⟨S4096x2, .i32⟩ : BufTy).Contents (Elt F) :=
  concatenate S4096x2 1 [⟨S4096x1, ((b82 j s))⟩, ⟨S4096x1, ((b83 j s))⟩] concatenates_S4096x1_S4096x1_S4096x2_d1
def b85 (j : ℕ) (s : State F) : (⟨S4096x10x64, .f32⟩ : BufTy).Contents (Elt F) :=
  Host.scatter scatter_S4096x10x64_S4096x2_S4096x64_1_01_01_1 (fun _ b => b) (s.main_v6_8) ((b84 j s)) ((b67 j s))
def b86 (j : ℕ) (s : State F) : (⟨S1x4096x64, .f32⟩ : BufTy).Contents (Elt F) :=
  broadcastInDim S1x4096x64 ![1, 2] bcast_S4096x64_S1x4096x64_1_2 ((b67 j s))
def b87 (j : ℕ) (s : State F) : (⟨S_, .i32⟩ : BufTy).Contents (Elt F) :=
  constantI S_ 32 0#32
def b88 (j : ℕ) (s : State F) : (⟨S_, .i32⟩ : BufTy).Contents (Elt F) :=
  constantI S_ 32 0#32
@[irreducible] def b89 (j : ℕ) (s : State F) : (⟨S50x4096x64, .f32⟩ : BufTy).Contents (Elt F) :=
  Host.dynamicUpdateSlice (s.main_v6_9) ((b86 j s)) (fun k => (((![(constantI S_ 32 (BitVec.ofNat 32 j) : (⟨S_, .i32⟩ : BufTy).Contents (Elt F)), (b87 j s), (b88 j s)] : Fin 3 → (⟨S_, .i32⟩ : BufTy).Contents (Elt F))) k (Shape.Idx.first h_S_)).toInt) updateFits_S50x4096x64_S1x4096x64

/-- The state @main hands the first trip, of the arguments it copies in or computes from. -/
def init (main_arg2 : (⟨S192x64, .f32⟩ : BufTy).Contents (Elt F)) (main_arg4 : (⟨S192, .f32⟩ : BufTy).Contents (Elt F)) (main_arg3 : (⟨S192x64, .f32⟩ : BufTy).Contents (Elt F)) (main_arg5 : (⟨S192, .f32⟩ : BufTy).Contents (Elt F)) (main_arg0 : (⟨S4096x50x64, .f32⟩ : BufTy).Contents (Elt F)) (main_arg1 : (⟨S4096x50, .i32⟩ : BufTy).Contents (Elt F)) : State F :=
  { main_v6_8 := K_main_v1 (F := F), main_v6_9 := K_main_v5 (F := F), main_v6_0 := A_main_v3 main_arg0 main_arg1, main_v6_1 := A_main_v4 main_arg0 main_arg1, main_v6_3 := main_arg2, main_v6_4 := main_arg4, main_v6_5 := main_arg3, main_v6_6 := main_arg5 }

/-- One trip. -/
def step (j : ℕ) (s : State F) : State F :=
  { main_v6_8 := b85 j s, main_v6_9 := b89 j s, main_v6_0 := s.main_v6_0, main_v6_1 := s.main_v6_1, main_v6_3 := s.main_v6_3, main_v6_4 := s.main_v6_4, main_v6_5 := s.main_v6_5, main_v6_6 := s.main_v6_6 }
section fields
variable (a8 : (⟨S4096x10x64, .f32⟩ : BufTy).Contents (Elt F)) (a9 a0 : (⟨S50x4096x64, .f32⟩ : BufTy).Contents (Elt F)) (a1 : (⟨S50x4096, .i32⟩ : BufTy).Contents (Elt F)) (a3 a5 : (⟨S192x64, .f32⟩ : BufTy).Contents (Elt F)) (a4 a6 : (⟨S192, .f32⟩ : BufTy).Contents (Elt F))
theorem mk_8 : (State.mk (F := F) a8 a9 a0 a1 a3 a4 a5 a6).main_v6_8 = a8 := rfl
theorem mk_9 : (State.mk (F := F) a8 a9 a0 a1 a3 a4 a5 a6).main_v6_9 = a9 := rfl
theorem mk_0 : (State.mk (F := F) a8 a9 a0 a1 a3 a4 a5 a6).main_v6_0 = a0 := rfl
theorem mk_1 : (State.mk (F := F) a8 a9 a0 a1 a3 a4 a5 a6).main_v6_1 = a1 := rfl
theorem mk_3 : (State.mk (F := F) a8 a9 a0 a1 a3 a4 a5 a6).main_v6_3 = a3 := rfl
theorem mk_4 : (State.mk (F := F) a8 a9 a0 a1 a3 a4 a5 a6).main_v6_4 = a4 := rfl
theorem mk_5 : (State.mk (F := F) a8 a9 a0 a1 a3 a4 a5 a6).main_v6_5 = a5 := rfl
theorem mk_6 : (State.mk (F := F) a8 a9 a0 a1 a3 a4 a5 a6).main_v6_6 = a6 := rfl
end fields

theorem step_main_v6_8 (j : ℕ) (s : State F) : (step j s).main_v6_8 = b85 j s := by
  unfold step; exact mk_8 _ _ _ _ _ _ _ _
theorem step_main_v6_9 (j : ℕ) (s : State F) : (step j s).main_v6_9 = b89 j s := by
  unfold step; exact mk_9 _ _ _ _ _ _ _ _
theorem step_main_v6_0 (j : ℕ) (s : State F) : (step j s).main_v6_0 = s.main_v6_0 := by
  unfold step; exact mk_0 _ _ _ _ _ _ _ _
theorem step_main_v6_1 (j : ℕ) (s : State F) : (step j s).main_v6_1 = s.main_v6_1 := by
  unfold step; exact mk_1 _ _ _ _ _ _ _ _
theorem step_main_v6_3 (j : ℕ) (s : State F) : (step j s).main_v6_3 = s.main_v6_3 := by
  unfold step; exact mk_3 _ _ _ _ _ _ _ _
theorem step_main_v6_4 (j : ℕ) (s : State F) : (step j s).main_v6_4 = s.main_v6_4 := by
  unfold step; exact mk_4 _ _ _ _ _ _ _ _
theorem step_main_v6_5 (j : ℕ) (s : State F) : (step j s).main_v6_5 = s.main_v6_5 := by
  unfold step; exact mk_5 _ _ _ _ _ _ _ _
theorem step_main_v6_6 (j : ℕ) (s : State F) : (step j s).main_v6_6 = s.main_v6_6 := by
  unfold step; exact mk_6 _ _ _ _ _ _ _ _

/-- `main_v7`, which the operations after the loop make, of the loop's last state. -/
def R_main_v7 (s : State F) : (⟨S4096x50x64, .f32⟩ : BufTy).Contents (Elt F) :=
  transpose S4096x50x64 [1, 0, 2] (s.main_v6_9) transposes_S50x4096x64_S4096x50x64_1_0_2

end Cert.RefStep

end
-- ==== Proof.RefStepRun.lean ====
/- The reference's run in terms of its trips: a valuation that holds a state holds the next one after a trip, so the result is that of
   the state after fifty trips. -/
module

public import proofs.«01_k».proof.Proof.Gen.ReferenceIdeal.Run
public import proofs.«01_k».proof.Proof.RefStep

@[expose] public section

noncomputable section

namespace Cert.RefStepRun

open Idealize.ShloMosaic Idealize.ShloMosaic.TcCoe Idealize.SL.Sem Idealize.ShloMosaic.StableHlo
open Cert.ReferenceIdeal Cert.ReferenceIdeal.Gen Cert.ReferenceIdeal.Value
open Cert.RefStep (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v6_8) = s.main_v6_8
  f_9 : V0 (Proc.devRef .tc main_v6_9) = s.main_v6_9
  f_0 : V0 (Proc.devRef .tc main_v6_0) = s.main_v6_0
  f_1 : V0 (Proc.devRef .tc main_v6_1) = s.main_v6_1
  f_3 : V0 (Proc.devRef .tc main_v6_3) = s.main_v6_3
  f_4 : V0 (Proc.devRef .tc main_v6_4) = s.main_v6_4
  f_5 : V0 (Proc.devRef .tc main_v6_5) = s.main_v6_5
  f_6 : V0 (Proc.devRef .tc main_v6_6) = s.main_v6_6
  n_7 : V0 (Proc.devRef .tc main_v6_7) = constantI S_ 32 (BitVec.ofNat 32 j)
  k_2 : V0 (Proc.devRef .tc main_v6_2) = Cert.RefStep.K_main_v2 (F := F)

variable {V0 s j}

set_option maxRecDepth 8192 in
theorem al_0 (h : Holds V0 s j) : (constantI S_ 32 0#32 : (Proc.devRef .tc main_while0b_call1_c : DevRef τ sig).ty.Contents (Elt F)) = Cert.RefStep.b0 j s := by
  unfold Cert.RefStep.b0
  rfl
set_option maxRecDepth 8192 in
theorem al_1 (h : Holds V0 s j) : (constantI S_ 32 0#32 : (Proc.devRef .tc main_while0b_call1_c_0 : DevRef τ sig).ty.Contents (Elt F)) = Cert.RefStep.b1 j s := by
  unfold Cert.RefStep.b1
  rfl
set_option maxRecDepth 8192 in
theorem al_2 (h : Holds V0 s j) : (Host.dynamicSlice S1x4096x64 (V0 (Proc.devRef .tc main_v6_0)) (fun k => (((![V0 (Proc.devRef .tc main_v6_7), constantI S_ 32 0#32, constantI S_ 32 0#32] : Fin 3 → (⟨S_, .i32⟩ : BufTy).Contents (Elt F))) k (Shape.Idx.first h_S_)).toInt) sliceFits_S50x4096x64_S1x4096x64 : (Proc.devRef .tc main_while0b_call1_v0 : DevRef τ sig).ty.Contents (Elt F)) = Cert.RefStep.b2 j s := by
  unfold Cert.RefStep.b2
  rw [← al_0 h, ← al_1 h, h.f_0, h.n_7]
  try rfl
set_option maxRecDepth 8192 in
theorem al_3 (h : Holds V0 s j) : (shapeCast S4096x64 (Host.dynamicSlice S1x4096x64 (V0 (Proc.devRef .tc main_v6_0)) (fun k => (((![V0 (Proc.devRef .tc main_v6_7), constantI S_ 32 0#32, constantI S_ 32 0#32] : Fin 3 → (⟨S_, .i32⟩ : BufTy).Contents (Elt F))) k (Shape.Idx.first h_S_)).toInt) sliceFits_S50x4096x64_S1x4096x64) shapeCasts_S1x4096x64_S4096x64 : (Proc.devRef .tc main_while0b_v8 : DevRef τ sig).ty.Contents (Elt F)) = Cert.RefStep.b3 j s := by
  unfold Cert.RefStep.b3
  rw [← al_2 h]
  try rfl
set_option maxRecDepth 8192 in
theorem al_4 (h : Holds V0 s j) : (constantI S_ 32 0#32 : (Proc.devRef .tc main_while0b_call2_c : DevRef τ sig).ty.Contents (Elt F)) = Cert.RefStep.b4 j s := by
  unfold Cert.RefStep.b4
  rfl
set_option maxRecDepth 8192 in
theorem al_5 (h : Holds V0 s j) : (Host.dynamicSlice S1x4096 (V0 (Proc.devRef .tc main_v6_1)) (fun k => (((![V0 (Proc.devRef .tc main_v6_7), constantI S_ 32 0#32] : Fin 2 → (⟨S_, .i32⟩ : BufTy).Contents (Elt F))) k (Shape.Idx.first h_S_)).toInt) sliceFits_S50x4096_S1x4096 : (Proc.devRef .tc main_while0b_call2_v0 : DevRef τ sig).ty.Contents (Elt F)) = Cert.RefStep.b5 j s := by
  unfold Cert.RefStep.b5
  rw [← al_4 h, h.f_1, h.n_7]
  try rfl
set_option maxRecDepth 8192 in
theorem al_6 (h : Holds V0 s j) : (res_main_while0b_v9 V0 : (Proc.devRef .tc main_while0b_v9 : DevRef τ sig).ty.Contents (Elt F)) = Cert.RefStep.b6 j s := by
  unfold res_main_while0b_v9 Cert.RefStep.b6
  rw [← al_5 h]
  try rfl
set_option maxRecDepth 8192 in
theorem al_7 (h : Holds V0 s j) : (constantI S_ 32 0#32 : (Proc.devRef .tc main_while0b_c_12 : DevRef τ sig).ty.Contents (Elt F)) = Cert.RefStep.b7 j s := by
  unfold Cert.RefStep.b7
  rfl
set_option maxRecDepth 8192 in
theorem al_8 (h : Holds V0 s j) : (broadcastInDim S4096 ![] bcast_S_S4096 (constantI S_ 32 0#32) : (Proc.devRef .tc main_while0b_v10 : DevRef τ sig).ty.Contents (Elt F)) = Cert.RefStep.b8 j s := by
  unfold Cert.RefStep.b8
  rw [← al_7 h]
  try rfl
set_option maxRecDepth 8192 in
theorem al_9 (h : Holds V0 s j) : (cmpi .slt (V0 (Proc.devRef .tc main_v6_2)) (broadcastInDim S4096 ![] bcast_S_S4096 (constantI S_ 32 0#32)) : (Proc.devRef .tc main_while0b_v11 : DevRef τ sig).ty.Contents (Elt F)) = Cert.RefStep.b9 j s := by
  unfold Cert.RefStep.b9
  rw [← al_8 h, h.k_2]
  try rfl
set_option maxRecDepth 8192 in
theorem al_10 (h : Holds V0 s j) : (constantI S_ 32 4096#32 : (Proc.devRef .tc main_while0b_c_13 : DevRef τ sig).ty.Contents (Elt F)) = Cert.RefStep.b10 j s := by
  unfold Cert.RefStep.b10
  rfl
set_option maxRecDepth 8192 in
theorem al_11 (h : Holds V0 s j) : (broadcastInDim S4096 ![] bcast_S_S4096 (constantI S_ 32 4096#32) : (Proc.devRef .tc main_while0b_v12 : DevRef τ sig).ty.Contents (Elt F)) = Cert.RefStep.b11 j s := by
  unfold Cert.RefStep.b11
  rw [← al_10 h]
  try rfl
set_option maxRecDepth 8192 in
theorem al_12 (h : Holds V0 s j) : (addi (V0 (Proc.devRef .tc main_v6_2)) (broadcastInDim S4096 ![] bcast_S_S4096 (constantI S_ 32 4096#32)) : (Proc.devRef .tc main_while0b_v13 : DevRef τ sig).ty.Contents (Elt F)) = Cert.RefStep.b12 j s := by
  unfold Cert.RefStep.b12
  rw [← al_11 h, h.k_2]
  try rfl
set_option maxRecDepth 8192 in
theorem al_13 (h : Holds V0 s j) : (select (cmpi .slt (V0 (Proc.devRef .tc main_v6_2)) (broadcastInDim S4096 ![] bcast_S_S4096 (constantI S_ 32 0#32))) (addi (V0 (Proc.devRef .tc main_v6_2)) (broadcastInDim S4096 ![] bcast_S_S4096 (constantI S_ 32 4096#32))) (V0 (Proc.devRef .tc main_v6_2)) : (Proc.devRef .tc main_while0b_v14 : DevRef τ sig).ty.Contents (Elt F)) = Cert.RefStep.b13 j s := by
  unfold Cert.RefStep.b13
  rw [← al_9 h, ← al_12 h, h.k_2]
  try rfl
set_option maxRecDepth 8192 in
theorem al_14 (h : Holds V0 s j) : (constantI S_ 32 0#32 : (Proc.devRef .tc main_while0b_c_14 : DevRef τ sig).ty.Contents (Elt F)) = Cert.RefStep.b14 j s := by
  unfold Cert.RefStep.b14
  rfl
set_option maxRecDepth 8192 in
theorem al_15 (h : Holds V0 s j) : (broadcastInDim S4096 ![] bcast_S_S4096 (constantI S_ 32 0#32) : (Proc.devRef .tc main_while0b_v15 : DevRef τ sig).ty.Contents (Elt F)) = Cert.RefStep.b15 j s := by
  unfold Cert.RefStep.b15
  rw [← al_14 h]
  try rfl
set_option maxRecDepth 8192 in
theorem al_16 (h : Holds V0 s j) : (cmpi .slt (res_main_while0b_v9 V0) (broadcastInDim S4096 ![] bcast_S_S4096 (constantI S_ 32 0#32)) : (Proc.devRef .tc main_while0b_v16 : DevRef τ sig).ty.Contents (Elt F)) = Cert.RefStep.b16 j s := by
  unfold Cert.RefStep.b16
  rw [← al_6 h, ← al_15 h]
  try rfl
set_option maxRecDepth 8192 in
theorem al_17 (h : Holds V0 s j) : (constantI S_ 32 10#32 : (Proc.devRef .tc main_while0b_c_15 : DevRef τ sig).ty.Contents (Elt F)) = Cert.RefStep.b17 j s := by
  unfold Cert.RefStep.b17
  rfl
set_option maxRecDepth 8192 in
theorem al_18 (h : Holds V0 s j) : (broadcastInDim S4096 ![] bcast_S_S4096 (constantI S_ 32 10#32) : (Proc.devRef .tc main_while0b_v17 : DevRef τ sig).ty.Contents (Elt F)) = Cert.RefStep.b18 j s := by
  unfold Cert.RefStep.b18
  rw [← al_17 h]
  try rfl
set_option maxRecDepth 8192 in
theorem al_19 (h : Holds V0 s j) : (addi (res_main_while0b_v9 V0) (broadcastInDim S4096 ![] bcast_S_S4096 (constantI S_ 32 10#32)) : (Proc.devRef .tc main_while0b_v18 : DevRef τ sig).ty.Contents (Elt F)) = Cert.RefStep.b19 j s := by
  unfold Cert.RefStep.b19
  rw [← al_6 h, ← al_18 h]
  try rfl
set_option maxRecDepth 8192 in
theorem al_20 (h : Holds V0 s j) : (select (cmpi .slt (res_main_while0b_v9 V0) (broadcastInDim S4096 ![] bcast_S_S4096 (constantI S_ 32 0#32))) (addi (res_main_while0b_v9 V0) (broadcastInDim S4096 ![] bcast_S_S4096 (constantI S_ 32 10#32))) (res_main_while0b_v9 V0) : (Proc.devRef .tc main_while0b_v19 : DevRef τ sig).ty.Contents (Elt F)) = Cert.RefStep.b20 j s := by
  unfold Cert.RefStep.b20
  rw [← al_16 h, ← al_19 h, ← al_6 h]
  try rfl
set_option maxRecDepth 8192 in
theorem al_21 (h : Holds V0 s j) : (broadcastInDim S4096x1 ![0] bcast_S4096_S4096x1_0 (select (cmpi .slt (V0 (Proc.devRef .tc main_v6_2)) (broadcastInDim S4096 ![] bcast_S_S4096 (constantI S_ 32 0#32))) (addi (V0 (Proc.devRef .tc main_v6_2)) (broadcastInDim S4096 ![] bcast_S_S4096 (constantI S_ 32 4096#32))) (V0 (Proc.devRef .tc main_v6_2))) : (Proc.devRef .tc main_while0b_v20 : DevRef τ sig).ty.Contents (Elt F)) = Cert.RefStep.b21 j s := by
  unfold Cert.RefStep.b21
  rw [← al_13 h]
  try rfl
set_option maxRecDepth 8192 in
theorem al_22 (h : Holds V0 s j) : (broadcastInDim S4096x1 ![0] bcast_S4096_S4096x1_0 (select (cmpi .slt (res_main_while0b_v9 V0) (broadcastInDim S4096 ![] bcast_S_S4096 (constantI S_ 32 0#32))) (addi (res_main_while0b_v9 V0) (broadcastInDim S4096 ![] bcast_S_S4096 (constantI S_ 32 10#32))) (res_main_while0b_v9 V0)) : (Proc.devRef .tc main_while0b_v21 : DevRef τ sig).ty.Contents (Elt F)) = Cert.RefStep.b22 j s := by
  unfold Cert.RefStep.b22
  rw [← al_20 h]
  try rfl
set_option maxRecDepth 8192 in
theorem al_23 (h : Holds V0 s j) : (concatenate S4096x2 1 [⟨S4096x1, (broadcastInDim S4096x1 ![0] bcast_S4096_S4096x1_0 (select (cmpi .slt (V0 (Proc.devRef .tc main_v6_2)) (broadcastInDim S4096 ![] bcast_S_S4096 (constantI S_ 32 0#32))) (addi (V0 (Proc.devRef .tc main_v6_2)) (broadcastInDim S4096 ![] bcast_S_S4096 (constantI S_ 32 4096#32))) (V0 (Proc.devRef .tc main_v6_2))))⟩, ⟨S4096x1, (broadcastInDim S4096x1 ![0] bcast_S4096_S4096x1_0 (select (cmpi .slt (res_main_while0b_v9 V0) (broadcastInDim S4096 ![] bcast_S_S4096 (constantI S_ 32 0#32))) (addi (res_main_while0b_v9 V0) (broadcastInDim S4096 ![] bcast_S_S4096 (constantI S_ 32 10#32))) (res_main_while0b_v9 V0)))⟩] concatenates_S4096x1_S4096x1_S4096x2_d1 : (Proc.devRef .tc main_while0b_v22 : DevRef τ sig).ty.Contents (Elt F)) = Cert.RefStep.b23 j s := by
  unfold Cert.RefStep.b23
  rw [← al_21 h, ← al_22 h]
  try rfl
set_option maxRecDepth 8192 in
theorem al_24 (h : Holds V0 s j) : (res_main_while0b_v23 V0 : (Proc.devRef .tc main_while0b_v23 : DevRef τ sig).ty.Contents (Elt F)) = Cert.RefStep.b24 j s := by
  unfold res_main_while0b_v23 Cert.RefStep.b24
  rw [← al_23 h, h.f_8]
  try rfl
set_option maxRecDepth 8192 in
theorem al_25 (h : Holds V0 s j) : (transpose S64x192 [1, 0] (V0 (Proc.devRef .tc main_v6_3)) transposes_S192x64_S64x192_1_0 : (Proc.devRef .tc main_while0b_v24 : DevRef τ sig).ty.Contents (Elt F)) = Cert.RefStep.b25 j s := by
  unfold Cert.RefStep.b25
  rw [h.f_3]
  try rfl
set_option maxRecDepth 8192 in
theorem al_26 (h : Holds V0 s j) : (Host.dotGeneral dot_S4096x64_S64x192_S4096x192_1_0_0_1_n_n none (shapeCast S4096x64 (Host.dynamicSlice S1x4096x64 (V0 (Proc.devRef .tc main_v6_0)) (fun k => (((![V0 (Proc.devRef .tc main_v6_7), constantI S_ 32 0#32, constantI S_ 32 0#32] : Fin 3 → (⟨S_, .i32⟩ : BufTy).Contents (Elt F))) k (Shape.Idx.first h_S_)).toInt) sliceFits_S50x4096x64_S1x4096x64) shapeCasts_S1x4096x64_S4096x64) (transpose S64x192 [1, 0] (V0 (Proc.devRef .tc main_v6_3)) transposes_S192x64_S64x192_1_0) : (Proc.devRef .tc main_while0b_v25 : DevRef τ sig).ty.Contents (Elt F)) = Cert.RefStep.b26 j s := by
  unfold Cert.RefStep.b26
  rw [← al_3 h, ← al_25 h]
  try rfl
set_option maxRecDepth 8192 in
theorem al_27 (h : Holds V0 s j) : (broadcastInDim S1x192 ![1] bcast_S192_S1x192_1 (V0 (Proc.devRef .tc main_v6_4)) : (Proc.devRef .tc main_while0b_v26 : DevRef τ sig).ty.Contents (Elt F)) = Cert.RefStep.b27 j s := by
  unfold Cert.RefStep.b27
  rw [h.f_4]
  try rfl
set_option maxRecDepth 8192 in
theorem al_28 (h : Holds V0 s j) : (broadcastInDim S4096x192 ![0, 1] bcast_S1x192_S4096x192_0_1 (broadcastInDim S1x192 ![1] bcast_S192_S1x192_1 (V0 (Proc.devRef .tc main_v6_4))) : (Proc.devRef .tc main_while0b_v27 : DevRef τ sig).ty.Contents (Elt F)) = Cert.RefStep.b28 j s := by
  unfold Cert.RefStep.b28
  rw [← al_27 h]
  try rfl
set_option maxRecDepth 8192 in
theorem al_29 (h : Holds V0 s j) : (res_main_while0b_v28 V0 : (Proc.devRef .tc main_while0b_v28 : DevRef τ sig).ty.Contents (Elt F)) = Cert.RefStep.b29 j s := by
  unfold res_main_while0b_v28 Cert.RefStep.b29
  rw [← al_26 h, ← al_28 h]
  try rfl
set_option maxRecDepth 8192 in
theorem al_30 (h : Holds V0 s j) : (transpose S64x192 [1, 0] (V0 (Proc.devRef .tc main_v6_5)) transposes_S192x64_S64x192_1_0 : (Proc.devRef .tc main_while0b_v29 : DevRef τ sig).ty.Contents (Elt F)) = Cert.RefStep.b30 j s := by
  unfold Cert.RefStep.b30
  rw [h.f_5]
  try rfl
set_option maxRecDepth 8192 in
theorem al_31 (h : Holds V0 s j) : (Host.dotGeneral dot_S4096x64_S64x192_S4096x192_1_0_0_1_n_n none (res_main_while0b_v23 V0) (transpose S64x192 [1, 0] (V0 (Proc.devRef .tc main_v6_5)) transposes_S192x64_S64x192_1_0) : (Proc.devRef .tc main_while0b_v30 : DevRef τ sig).ty.Contents (Elt F)) = Cert.RefStep.b31 j s := by
  unfold Cert.RefStep.b31
  rw [← al_24 h, ← al_30 h]
  try rfl
set_option maxRecDepth 8192 in
theorem al_32 (h : Holds V0 s j) : (broadcastInDim S1x192 ![1] bcast_S192_S1x192_1 (V0 (Proc.devRef .tc main_v6_6)) : (Proc.devRef .tc main_while0b_v31 : DevRef τ sig).ty.Contents (Elt F)) = Cert.RefStep.b32 j s := by
  unfold Cert.RefStep.b32
  rw [h.f_6]
  try rfl
set_option maxRecDepth 8192 in
theorem al_33 (h : Holds V0 s j) : (broadcastInDim S4096x192 ![0, 1] bcast_S1x192_S4096x192_0_1 (broadcastInDim S1x192 ![1] bcast_S192_S1x192_1 (V0 (Proc.devRef .tc main_v6_6))) : (Proc.devRef .tc main_while0b_v32 : DevRef τ sig).ty.Contents (Elt F)) = Cert.RefStep.b33 j s := by
  unfold Cert.RefStep.b33
  rw [← al_32 h]
  try rfl
set_option maxRecDepth 8192 in
theorem al_34 (h : Holds V0 s j) : (res_main_while0b_v33 V0 : (Proc.devRef .tc main_while0b_v33 : DevRef τ sig).ty.Contents (Elt F)) = Cert.RefStep.b34 j s := by
  unfold res_main_while0b_v33 Cert.RefStep.b34
  rw [← al_31 h, ← al_33 h]
  try rfl
set_option maxRecDepth 8192 in
theorem al_35 (h : Holds V0 s j) : (extractStridedSlice S4096x64 ![0, 0] (res_main_while0b_v28 V0) slices_S4096x192_S4096x64_0_0 : (Proc.devRef .tc main_while0b_v34 : DevRef τ sig).ty.Contents (Elt F)) = Cert.RefStep.b35 j s := by
  unfold Cert.RefStep.b35
  rw [← al_29 h]
  try rfl
set_option maxRecDepth 8192 in
theorem al_36 (h : Holds V0 s j) : (extractStridedSlice S4096x64 ![0, 64] (res_main_while0b_v28 V0) slices_S4096x192_S4096x64_0_64 : (Proc.devRef .tc main_while0b_v35 : DevRef τ sig).ty.Contents (Elt F)) = Cert.RefStep.b36 j s := by
  unfold Cert.RefStep.b36
  rw [← al_29 h]
  try rfl
set_option maxRecDepth 8192 in
theorem al_37 (h : Holds V0 s j) : (extractStridedSlice S4096x64 ![0, 128] (res_main_while0b_v28 V0) slices_S4096x192_S4096x64_0_128 : (Proc.devRef .tc main_while0b_v36 : DevRef τ sig).ty.Contents (Elt F)) = Cert.RefStep.b37 j s := by
  unfold Cert.RefStep.b37
  rw [← al_29 h]
  try rfl
set_option maxRecDepth 8192 in
theorem al_38 (h : Holds V0 s j) : (extractStridedSlice S4096x64 ![0, 0] (res_main_while0b_v33 V0) slices_S4096x192_S4096x64_0_0 : (Proc.devRef .tc main_while0b_v37 : DevRef τ sig).ty.Contents (Elt F)) = Cert.RefStep.b38 j s := by
  unfold Cert.RefStep.b38
  rw [← al_34 h]
  try rfl
set_option maxRecDepth 8192 in
theorem al_39 (h : Holds V0 s j) : (extractStridedSlice S4096x64 ![0, 64] (res_main_while0b_v33 V0) slices_S4096x192_S4096x64_0_64 : (Proc.devRef .tc main_while0b_v38 : DevRef τ sig).ty.Contents (Elt F)) = Cert.RefStep.b39 j s := by
  unfold Cert.RefStep.b39
  rw [← al_34 h]
  try rfl
set_option maxRecDepth 8192 in
theorem al_40 (h : Holds V0 s j) : (extractStridedSlice S4096x64 ![0, 128] (res_main_while0b_v33 V0) slices_S4096x192_S4096x64_0_128 : (Proc.devRef .tc main_while0b_v39 : DevRef τ sig).ty.Contents (Elt F)) = Cert.RefStep.b40 j s := by
  unfold Cert.RefStep.b40
  rw [← al_34 h]
  try rfl
set_option maxRecDepth 8192 in
theorem al_41 (h : Holds V0 s j) : (addf (extractStridedSlice S4096x64 ![0, 0] (res_main_while0b_v28 V0) slices_S4096x192_S4096x64_0_0) (extractStridedSlice S4096x64 ![0, 0] (res_main_while0b_v33 V0) slices_S4096x192_S4096x64_0_0) : (Proc.devRef .tc main_while0b_v40 : DevRef τ sig).ty.Contents (Elt F)) = Cert.RefStep.b41 j s := by
  unfold Cert.RefStep.b41
  rw [← al_35 h, ← al_38 h]
  try rfl
set_option maxRecDepth 8192 in
theorem al_42 (h : Holds V0 s j) : (Host.negf (addf (extractStridedSlice S4096x64 ![0, 0] (res_main_while0b_v28 V0) slices_S4096x192_S4096x64_0_0) (extractStridedSlice S4096x64 ![0, 0] (res_main_while0b_v33 V0) slices_S4096x192_S4096x64_0_0)) : (Proc.devRef .tc main_while0b_v41 : DevRef τ sig).ty.Contents (Elt F)) = Cert.RefStep.b42 j s := by
  unfold Cert.RefStep.b42
  rw [← al_41 h]
  try rfl
set_option maxRecDepth 8192 in
theorem al_43 (h : Holds V0 s j) : (Host.exp (Host.negf (addf (extractStridedSlice S4096x64 ![0, 0] (res_main_while0b_v28 V0) slices_S4096x192_S4096x64_0_0) (extractStridedSlice S4096x64 ![0, 0] (res_main_while0b_v33 V0) slices_S4096x192_S4096x64_0_0))) : (Proc.devRef .tc main_while0b_v42 : DevRef τ sig).ty.Contents (Elt F)) = Cert.RefStep.b43 j s := by
  unfold Cert.RefStep.b43
  rw [← al_42 h]
  try rfl
set_option maxRecDepth 8192 in
theorem al_44 (h : Holds V0 s j) : (constant S_ .f32 0x3F800000#32 : (Proc.devRef .tc main_while0b_cst_16 : DevRef τ sig).ty.Contents (Elt F)) = Cert.RefStep.b44 j s := by
  unfold Cert.RefStep.b44
  rfl
set_option maxRecDepth 8192 in
theorem al_45 (h : Holds V0 s j) : (broadcastInDim S4096x64 ![] bcast_S_S4096x64 (constant S_ .f32 0x3F800000#32) : (Proc.devRef .tc main_while0b_v43 : DevRef τ sig).ty.Contents (Elt F)) = Cert.RefStep.b45 j s := by
  unfold Cert.RefStep.b45
  rw [← al_44 h]
  try rfl
set_option maxRecDepth 8192 in
theorem al_46 (h : Holds V0 s j) : (addf (broadcastInDim S4096x64 ![] bcast_S_S4096x64 (constant S_ .f32 0x3F800000#32)) (Host.exp (Host.negf (addf (extractStridedSlice S4096x64 ![0, 0] (res_main_while0b_v28 V0) slices_S4096x192_S4096x64_0_0) (extractStridedSlice S4096x64 ![0, 0] (res_main_while0b_v33 V0) slices_S4096x192_S4096x64_0_0)))) : (Proc.devRef .tc main_while0b_v44 : DevRef τ sig).ty.Contents (Elt F)) = Cert.RefStep.b46 j s := by
  unfold Cert.RefStep.b46
  rw [← al_45 h, ← al_43 h]
  try rfl
set_option maxRecDepth 8192 in
theorem al_47 (h : Holds V0 s j) : (constant S_ .f32 0x3F800000#32 : (Proc.devRef .tc main_while0b_cst_17 : DevRef τ sig).ty.Contents (Elt F)) = Cert.RefStep.b47 j s := by
  unfold Cert.RefStep.b47
  rfl
set_option maxRecDepth 8192 in
theorem al_48 (h : Holds V0 s j) : (broadcastInDim S4096x64 ![] bcast_S_S4096x64 (constant S_ .f32 0x3F800000#32) : (Proc.devRef .tc main_while0b_v45 : DevRef τ sig).ty.Contents (Elt F)) = Cert.RefStep.b48 j s := by
  unfold Cert.RefStep.b48
  rw [← al_47 h]
  try rfl
set_option maxRecDepth 8192 in
theorem al_49 (h : Holds V0 s j) : (Host.divf (broadcastInDim S4096x64 ![] bcast_S_S4096x64 (constant S_ .f32 0x3F800000#32)) (addf (broadcastInDim S4096x64 ![] bcast_S_S4096x64 (constant S_ .f32 0x3F800000#32)) (Host.exp (Host.negf (addf (extractStridedSlice S4096x64 ![0, 0] (res_main_while0b_v28 V0) slices_S4096x192_S4096x64_0_0) (extractStridedSlice S4096x64 ![0, 0] (res_main_while0b_v33 V0) slices_S4096x192_S4096x64_0_0))))) : (Proc.devRef .tc main_while0b_v46 : DevRef τ sig).ty.Contents (Elt F)) = Cert.RefStep.b49 j s := by
  unfold Cert.RefStep.b49
  rw [← al_48 h, ← al_46 h]
  try rfl
set_option maxRecDepth 8192 in
theorem al_50 (h : Holds V0 s j) : (addf (extractStridedSlice S4096x64 ![0, 64] (res_main_while0b_v28 V0) slices_S4096x192_S4096x64_0_64) (extractStridedSlice S4096x64 ![0, 64] (res_main_while0b_v33 V0) slices_S4096x192_S4096x64_0_64) : (Proc.devRef .tc main_while0b_v47 : DevRef τ sig).ty.Contents (Elt F)) = Cert.RefStep.b50 j s := by
  unfold Cert.RefStep.b50
  rw [← al_36 h, ← al_39 h]
  try rfl
set_option maxRecDepth 8192 in
theorem al_51 (h : Holds V0 s j) : (Host.negf (addf (extractStridedSlice S4096x64 ![0, 64] (res_main_while0b_v28 V0) slices_S4096x192_S4096x64_0_64) (extractStridedSlice S4096x64 ![0, 64] (res_main_while0b_v33 V0) slices_S4096x192_S4096x64_0_64)) : (Proc.devRef .tc main_while0b_v48 : DevRef τ sig).ty.Contents (Elt F)) = Cert.RefStep.b51 j s := by
  unfold Cert.RefStep.b51
  rw [← al_50 h]
  try rfl
set_option maxRecDepth 8192 in
theorem al_52 (h : Holds V0 s j) : (Host.exp (Host.negf (addf (extractStridedSlice S4096x64 ![0, 64] (res_main_while0b_v28 V0) slices_S4096x192_S4096x64_0_64) (extractStridedSlice S4096x64 ![0, 64] (res_main_while0b_v33 V0) slices_S4096x192_S4096x64_0_64))) : (Proc.devRef .tc main_while0b_v49 : DevRef τ sig).ty.Contents (Elt F)) = Cert.RefStep.b52 j s := by
  unfold Cert.RefStep.b52
  rw [← al_51 h]
  try rfl
set_option maxRecDepth 8192 in
theorem al_53 (h : Holds V0 s j) : (constant S_ .f32 0x3F800000#32 : (Proc.devRef .tc main_while0b_cst_18 : DevRef τ sig).ty.Contents (Elt F)) = Cert.RefStep.b53 j s := by
  unfold Cert.RefStep.b53
  rfl
set_option maxRecDepth 8192 in
theorem al_54 (h : Holds V0 s j) : (broadcastInDim S4096x64 ![] bcast_S_S4096x64 (constant S_ .f32 0x3F800000#32) : (Proc.devRef .tc main_while0b_v50 : DevRef τ sig).ty.Contents (Elt F)) = Cert.RefStep.b54 j s := by
  unfold Cert.RefStep.b54
  rw [← al_53 h]
  try rfl
set_option maxRecDepth 8192 in
theorem al_55 (h : Holds V0 s j) : (addf (broadcastInDim S4096x64 ![] bcast_S_S4096x64 (constant S_ .f32 0x3F800000#32)) (Host.exp (Host.negf (addf (extractStridedSlice S4096x64 ![0, 64] (res_main_while0b_v28 V0) slices_S4096x192_S4096x64_0_64) (extractStridedSlice S4096x64 ![0, 64] (res_main_while0b_v33 V0) slices_S4096x192_S4096x64_0_64)))) : (Proc.devRef .tc main_while0b_v51 : DevRef τ sig).ty.Contents (Elt F)) = Cert.RefStep.b55 j s := by
  unfold Cert.RefStep.b55
  rw [← al_54 h, ← al_52 h]
  try rfl
set_option maxRecDepth 8192 in
theorem al_56 (h : Holds V0 s j) : (constant S_ .f32 0x3F800000#32 : (Proc.devRef .tc main_while0b_cst_19 : DevRef τ sig).ty.Contents (Elt F)) = Cert.RefStep.b56 j s := by
  unfold Cert.RefStep.b56
  rfl
set_option maxRecDepth 8192 in
theorem al_57 (h : Holds V0 s j) : (broadcastInDim S4096x64 ![] bcast_S_S4096x64 (constant S_ .f32 0x3F800000#32) : (Proc.devRef .tc main_while0b_v52 : DevRef τ sig).ty.Contents (Elt F)) = Cert.RefStep.b57 j s := by
  unfold Cert.RefStep.b57
  rw [← al_56 h]
  try rfl
set_option maxRecDepth 8192 in
theorem al_58 (h : Holds V0 s j) : (res_main_while0b_v53 V0 : (Proc.devRef .tc main_while0b_v53 : DevRef τ sig).ty.Contents (Elt F)) = Cert.RefStep.b58 j s := by
  unfold res_main_while0b_v53 Cert.RefStep.b58
  rw [← al_57 h, ← al_55 h]
  try rfl
set_option maxRecDepth 8192 in
theorem al_59 (h : Holds V0 s j) : (mulf (Host.divf (broadcastInDim S4096x64 ![] bcast_S_S4096x64 (constant S_ .f32 0x3F800000#32)) (addf (broadcastInDim S4096x64 ![] bcast_S_S4096x64 (constant S_ .f32 0x3F800000#32)) (Host.exp (Host.negf (addf (extractStridedSlice S4096x64 ![0, 0] (res_main_while0b_v28 V0) slices_S4096x192_S4096x64_0_0) (extractStridedSlice S4096x64 ![0, 0] (res_main_while0b_v33 V0) slices_S4096x192_S4096x64_0_0)))))) (extractStridedSlice S4096x64 ![0, 128] (res_main_while0b_v33 V0) slices_S4096x192_S4096x64_0_128) : (Proc.devRef .tc main_while0b_v54 : DevRef τ sig).ty.Contents (Elt F)) = Cert.RefStep.b59 j s := by
  unfold Cert.RefStep.b59
  rw [← al_49 h, ← al_40 h]
  try rfl
set_option maxRecDepth 8192 in
theorem al_60 (h : Holds V0 s j) : (addf (extractStridedSlice S4096x64 ![0, 128] (res_main_while0b_v28 V0) slices_S4096x192_S4096x64_0_128) (mulf (Host.divf (broadcastInDim S4096x64 ![] bcast_S_S4096x64 (constant S_ .f32 0x3F800000#32)) (addf (broadcastInDim S4096x64 ![] bcast_S_S4096x64 (constant S_ .f32 0x3F800000#32)) (Host.exp (Host.negf (addf (extractStridedSlice S4096x64 ![0, 0] (res_main_while0b_v28 V0) slices_S4096x192_S4096x64_0_0) (extractStridedSlice S4096x64 ![0, 0] (res_main_while0b_v33 V0) slices_S4096x192_S4096x64_0_0)))))) (extractStridedSlice S4096x64 ![0, 128] (res_main_while0b_v33 V0) slices_S4096x192_S4096x64_0_128)) : (Proc.devRef .tc main_while0b_v55 : DevRef τ sig).ty.Contents (Elt F)) = Cert.RefStep.b60 j s := by
  unfold Cert.RefStep.b60
  rw [← al_37 h, ← al_59 h]
  try rfl
set_option maxRecDepth 8192 in
theorem al_61 (h : Holds V0 s j) : (Host.tanh (addf (extractStridedSlice S4096x64 ![0, 128] (res_main_while0b_v28 V0) slices_S4096x192_S4096x64_0_128) (mulf (Host.divf (broadcastInDim S4096x64 ![] bcast_S_S4096x64 (constant S_ .f32 0x3F800000#32)) (addf (broadcastInDim S4096x64 ![] bcast_S_S4096x64 (constant S_ .f32 0x3F800000#32)) (Host.exp (Host.negf (addf (extractStridedSlice S4096x64 ![0, 0] (res_main_while0b_v28 V0) slices_S4096x192_S4096x64_0_0) (extractStridedSlice S4096x64 ![0, 0] (res_main_while0b_v33 V0) slices_S4096x192_S4096x64_0_0)))))) (extractStridedSlice S4096x64 ![0, 128] (res_main_while0b_v33 V0) slices_S4096x192_S4096x64_0_128))) : (Proc.devRef .tc main_while0b_v56 : DevRef τ sig).ty.Contents (Elt F)) = Cert.RefStep.b61 j s := by
  unfold Cert.RefStep.b61
  rw [← al_60 h]
  try rfl
set_option maxRecDepth 8192 in
theorem al_62 (h : Holds V0 s j) : (constant S_ .f32 0x3F800000#32 : (Proc.devRef .tc main_while0b_cst_20 : DevRef τ sig).ty.Contents (Elt F)) = Cert.RefStep.b62 j s := by
  unfold Cert.RefStep.b62
  rfl
set_option maxRecDepth 8192 in
theorem al_63 (h : Holds V0 s j) : (broadcastInDim S4096x64 ![] bcast_S_S4096x64 (constant S_ .f32 0x3F800000#32) : (Proc.devRef .tc main_while0b_v57 : DevRef τ sig).ty.Contents (Elt F)) = Cert.RefStep.b63 j s := by
  unfold Cert.RefStep.b63
  rw [← al_62 h]
  try rfl
set_option maxRecDepth 8192 in
theorem al_64 (h : Holds V0 s j) : (subf (broadcastInDim S4096x64 ![] bcast_S_S4096x64 (constant S_ .f32 0x3F800000#32)) (res_main_while0b_v53 V0) : (Proc.devRef .tc main_while0b_v58 : DevRef τ sig).ty.Contents (Elt F)) = Cert.RefStep.b64 j s := by
  unfold Cert.RefStep.b64
  rw [← al_63 h, ← al_58 h]
  try rfl
set_option maxRecDepth 8192 in
theorem al_65 (h : Holds V0 s j) : (mulf (subf (broadcastInDim S4096x64 ![] bcast_S_S4096x64 (constant S_ .f32 0x3F800000#32)) (res_main_while0b_v53 V0)) (Host.tanh (addf (extractStridedSlice S4096x64 ![0, 128] (res_main_while0b_v28 V0) slices_S4096x192_S4096x64_0_128) (mulf (Host.divf (broadcastInDim S4096x64 ![] bcast_S_S4096x64 (constant S_ .f32 0x3F800000#32)) (addf (broadcastInDim S4096x64 ![] bcast_S_S4096x64 (constant S_ .f32 0x3F800000#32)) (Host.exp (Host.negf (addf (extractStridedSlice S4096x64 ![0, 0] (res_main_while0b_v28 V0) slices_S4096x192_S4096x64_0_0) (extractStridedSlice S4096x64 ![0, 0] (res_main_while0b_v33 V0) slices_S4096x192_S4096x64_0_0)))))) (extractStridedSlice S4096x64 ![0, 128] (res_main_while0b_v33 V0) slices_S4096x192_S4096x64_0_128)))) : (Proc.devRef .tc main_while0b_v59 : DevRef τ sig).ty.Contents (Elt F)) = Cert.RefStep.b65 j s := by
  unfold Cert.RefStep.b65
  rw [← al_64 h, ← al_61 h]
  try rfl
set_option maxRecDepth 8192 in
theorem al_66 (h : Holds V0 s j) : (mulf (res_main_while0b_v53 V0) (res_main_while0b_v23 V0) : (Proc.devRef .tc main_while0b_v60 : DevRef τ sig).ty.Contents (Elt F)) = Cert.RefStep.b66 j s := by
  unfold Cert.RefStep.b66
  rw [← al_58 h, ← al_24 h]
  try rfl
set_option maxRecDepth 8192 in
theorem al_67 (h : Holds V0 s j) : (res_main_while0b_v61 V0 : (Proc.devRef .tc main_while0b_v61 : DevRef τ sig).ty.Contents (Elt F)) = Cert.RefStep.b67 j s := by
  unfold res_main_while0b_v61 Cert.RefStep.b67
  rw [← al_65 h, ← al_66 h]
  try rfl
set_option maxRecDepth 8192 in
theorem al_68 (h : Holds V0 s j) : (constantI S_ 32 0#32 : (Proc.devRef .tc main_while0b_c_21 : DevRef τ sig).ty.Contents (Elt F)) = Cert.RefStep.b68 j s := by
  unfold Cert.RefStep.b68
  rfl
set_option maxRecDepth 8192 in
theorem al_69 (h : Holds V0 s j) : (broadcastInDim S4096 ![] bcast_S_S4096 (constantI S_ 32 0#32) : (Proc.devRef .tc main_while0b_v62 : DevRef τ sig).ty.Contents (Elt F)) = Cert.RefStep.b69 j s := by
  unfold Cert.RefStep.b69
  rw [← al_68 h]
  try rfl
set_option maxRecDepth 8192 in
theorem al_70 (h : Holds V0 s j) : (cmpi .slt (V0 (Proc.devRef .tc main_v6_2)) (broadcastInDim S4096 ![] bcast_S_S4096 (constantI S_ 32 0#32)) : (Proc.devRef .tc main_while0b_v63 : DevRef τ sig).ty.Contents (Elt F)) = Cert.RefStep.b70 j s := by
  unfold Cert.RefStep.b70
  rw [← al_69 h, h.k_2]
  try rfl
set_option maxRecDepth 8192 in
theorem al_71 (h : Holds V0 s j) : (constantI S_ 32 4096#32 : (Proc.devRef .tc main_while0b_c_22 : DevRef τ sig).ty.Contents (Elt F)) = Cert.RefStep.b71 j s := by
  unfold Cert.RefStep.b71
  rfl
set_option maxRecDepth 8192 in
theorem al_72 (h : Holds V0 s j) : (broadcastInDim S4096 ![] bcast_S_S4096 (constantI S_ 32 4096#32) : (Proc.devRef .tc main_while0b_v64 : DevRef τ sig).ty.Contents (Elt F)) = Cert.RefStep.b72 j s := by
  unfold Cert.RefStep.b72
  rw [← al_71 h]
  try rfl
set_option maxRecDepth 8192 in
theorem al_73 (h : Holds V0 s j) : (addi (V0 (Proc.devRef .tc main_v6_2)) (broadcastInDim S4096 ![] bcast_S_S4096 (constantI S_ 32 4096#32)) : (Proc.devRef .tc main_while0b_v65 : DevRef τ sig).ty.Contents (Elt F)) = Cert.RefStep.b73 j s := by
  unfold Cert.RefStep.b73
  rw [← al_72 h, h.k_2]
  try rfl
set_option maxRecDepth 8192 in
theorem al_74 (h : Holds V0 s j) : (select (cmpi .slt (V0 (Proc.devRef .tc main_v6_2)) (broadcastInDim S4096 ![] bcast_S_S4096 (constantI S_ 32 0#32))) (addi (V0 (Proc.devRef .tc main_v6_2)) (broadcastInDim S4096 ![] bcast_S_S4096 (constantI S_ 32 4096#32))) (V0 (Proc.devRef .tc main_v6_2)) : (Proc.devRef .tc main_while0b_v66 : DevRef τ sig).ty.Contents (Elt F)) = Cert.RefStep.b74 j s := by
  unfold Cert.RefStep.b74
  rw [← al_70 h, ← al_73 h, h.k_2]
  try rfl
set_option maxRecDepth 8192 in
theorem al_75 (h : Holds V0 s j) : (constantI S_ 32 0#32 : (Proc.devRef .tc main_while0b_c_23 : DevRef τ sig).ty.Contents (Elt F)) = Cert.RefStep.b75 j s := by
  unfold Cert.RefStep.b75
  rfl
set_option maxRecDepth 8192 in
theorem al_76 (h : Holds V0 s j) : (broadcastInDim S4096 ![] bcast_S_S4096 (constantI S_ 32 0#32) : (Proc.devRef .tc main_while0b_v67 : DevRef τ sig).ty.Contents (Elt F)) = Cert.RefStep.b76 j s := by
  unfold Cert.RefStep.b76
  rw [← al_75 h]
  try rfl
set_option maxRecDepth 8192 in
theorem al_77 (h : Holds V0 s j) : (cmpi .slt (res_main_while0b_v9 V0) (broadcastInDim S4096 ![] bcast_S_S4096 (constantI S_ 32 0#32)) : (Proc.devRef .tc main_while0b_v68 : DevRef τ sig).ty.Contents (Elt F)) = Cert.RefStep.b77 j s := by
  unfold Cert.RefStep.b77
  rw [← al_6 h, ← al_76 h]
  try rfl
set_option maxRecDepth 8192 in
theorem al_78 (h : Holds V0 s j) : (constantI S_ 32 10#32 : (Proc.devRef .tc main_while0b_c_24 : DevRef τ sig).ty.Contents (Elt F)) = Cert.RefStep.b78 j s := by
  unfold Cert.RefStep.b78
  rfl
set_option maxRecDepth 8192 in
theorem al_79 (h : Holds V0 s j) : (broadcastInDim S4096 ![] bcast_S_S4096 (constantI S_ 32 10#32) : (Proc.devRef .tc main_while0b_v69 : DevRef τ sig).ty.Contents (Elt F)) = Cert.RefStep.b79 j s := by
  unfold Cert.RefStep.b79
  rw [← al_78 h]
  try rfl
set_option maxRecDepth 8192 in
theorem al_80 (h : Holds V0 s j) : (addi (res_main_while0b_v9 V0) (broadcastInDim S4096 ![] bcast_S_S4096 (constantI S_ 32 10#32)) : (Proc.devRef .tc main_while0b_v70 : DevRef τ sig).ty.Contents (Elt F)) = Cert.RefStep.b80 j s := by
  unfold Cert.RefStep.b80
  rw [← al_6 h, ← al_79 h]
  try rfl
set_option maxRecDepth 8192 in
theorem al_81 (h : Holds V0 s j) : (select (cmpi .slt (res_main_while0b_v9 V0) (broadcastInDim S4096 ![] bcast_S_S4096 (constantI S_ 32 0#32))) (addi (res_main_while0b_v9 V0) (broadcastInDim S4096 ![] bcast_S_S4096 (constantI S_ 32 10#32))) (res_main_while0b_v9 V0) : (Proc.devRef .tc main_while0b_v71 : DevRef τ sig).ty.Contents (Elt F)) = Cert.RefStep.b81 j s := by
  unfold Cert.RefStep.b81
  rw [← al_77 h, ← al_80 h, ← al_6 h]
  try rfl
set_option maxRecDepth 8192 in
theorem al_82 (h : Holds V0 s j) : (broadcastInDim S4096x1 ![0] bcast_S4096_S4096x1_0 (select (cmpi .slt (V0 (Proc.devRef .tc main_v6_2)) (broadcastInDim S4096 ![] bcast_S_S4096 (constantI S_ 32 0#32))) (addi (V0 (Proc.devRef .tc main_v6_2)) (broadcastInDim S4096 ![] bcast_S_S4096 (constantI S_ 32 4096#32))) (V0 (Proc.devRef .tc main_v6_2))) : (Proc.devRef .tc main_while0b_v72 : DevRef τ sig).ty.Contents (Elt F)) = Cert.RefStep.b82 j s := by
  unfold Cert.RefStep.b82
  rw [← al_74 h]
  try rfl
set_option maxRecDepth 8192 in
theorem al_83 (h : Holds V0 s j) : (broadcastInDim S4096x1 ![0] bcast_S4096_S4096x1_0 (select (cmpi .slt (res_main_while0b_v9 V0) (broadcastInDim S4096 ![] bcast_S_S4096 (constantI S_ 32 0#32))) (addi (res_main_while0b_v9 V0) (broadcastInDim S4096 ![] bcast_S_S4096 (constantI S_ 32 10#32))) (res_main_while0b_v9 V0)) : (Proc.devRef .tc main_while0b_v73 : DevRef τ sig).ty.Contents (Elt F)) = Cert.RefStep.b83 j s := by
  unfold Cert.RefStep.b83
  rw [← al_81 h]
  try rfl
set_option maxRecDepth 8192 in
theorem al_84 (h : Holds V0 s j) : (concatenate S4096x2 1 [⟨S4096x1, (broadcastInDim S4096x1 ![0] bcast_S4096_S4096x1_0 (select (cmpi .slt (V0 (Proc.devRef .tc main_v6_2)) (broadcastInDim S4096 ![] bcast_S_S4096 (constantI S_ 32 0#32))) (addi (V0 (Proc.devRef .tc main_v6_2)) (broadcastInDim S4096 ![] bcast_S_S4096 (constantI S_ 32 4096#32))) (V0 (Proc.devRef .tc main_v6_2))))⟩, ⟨S4096x1, (broadcastInDim S4096x1 ![0] bcast_S4096_S4096x1_0 (select (cmpi .slt (res_main_while0b_v9 V0) (broadcastInDim S4096 ![] bcast_S_S4096 (constantI S_ 32 0#32))) (addi (res_main_while0b_v9 V0) (broadcastInDim S4096 ![] bcast_S_S4096 (constantI S_ 32 10#32))) (res_main_while0b_v9 V0)))⟩] concatenates_S4096x1_S4096x1_S4096x2_d1 : (Proc.devRef .tc main_while0b_v74 : DevRef τ sig).ty.Contents (Elt F)) = Cert.RefStep.b84 j s := by
  unfold Cert.RefStep.b84
  rw [← al_82 h, ← al_83 h]
  try rfl
set_option maxRecDepth 8192 in
theorem al_85 (h : Holds V0 s j) : (Host.scatter scatter_S4096x10x64_S4096x2_S4096x64_1_01_01_1 (fun _ b => b) (V0 (Proc.devRef .tc main_v6_8)) (concatenate S4096x2 1 [⟨S4096x1, (broadcastInDim S4096x1 ![0] bcast_S4096_S4096x1_0 (select (cmpi .slt (V0 (Proc.devRef .tc main_v6_2)) (broadcastInDim S4096 ![] bcast_S_S4096 (constantI S_ 32 0#32))) (addi (V0 (Proc.devRef .tc main_v6_2)) (broadcastInDim S4096 ![] bcast_S_S4096 (constantI S_ 32 4096#32))) (V0 (Proc.devRef .tc main_v6_2))))⟩, ⟨S4096x1, (broadcastInDim S4096x1 ![0] bcast_S4096_S4096x1_0 (select (cmpi .slt (res_main_while0b_v9 V0) (broadcastInDim S4096 ![] bcast_S_S4096 (constantI S_ 32 0#32))) (addi (res_main_while0b_v9 V0) (broadcastInDim S4096 ![] bcast_S_S4096 (constantI S_ 32 10#32))) (res_main_while0b_v9 V0)))⟩] concatenates_S4096x1_S4096x1_S4096x2_d1) (res_main_while0b_v61 V0) : (Proc.devRef .tc main_while0b_v75 : DevRef τ sig).ty.Contents (Elt F)) = Cert.RefStep.b85 j s := by
  unfold Cert.RefStep.b85
  rw [← al_84 h, ← al_67 h, h.f_8]
  try rfl
set_option maxRecDepth 8192 in
theorem al_86 (h : Holds V0 s j) : (broadcastInDim S1x4096x64 ![1, 2] bcast_S4096x64_S1x4096x64_1_2 (res_main_while0b_v61 V0) : (Proc.devRef .tc main_while0b_call3_v0 : DevRef τ sig).ty.Contents (Elt F)) = Cert.RefStep.b86 j s := by
  unfold Cert.RefStep.b86
  rw [← al_67 h]
  try rfl
set_option maxRecDepth 8192 in
theorem al_87 (h : Holds V0 s j) : (constantI S_ 32 0#32 : (Proc.devRef .tc main_while0b_call3_c : DevRef τ sig).ty.Contents (Elt F)) = Cert.RefStep.b87 j s := by
  unfold Cert.RefStep.b87
  rfl
set_option maxRecDepth 8192 in
theorem al_88 (h : Holds V0 s j) : (constantI S_ 32 0#32 : (Proc.devRef .tc main_while0b_call3_c_0 : DevRef τ sig).ty.Contents (Elt F)) = Cert.RefStep.b88 j s := by
  unfold Cert.RefStep.b88
  rfl
set_option maxRecDepth 8192 in
theorem al_89 (h : Holds V0 s j) : (Host.dynamicUpdateSlice (V0 (Proc.devRef .tc main_v6_9)) (broadcastInDim S1x4096x64 ![1, 2] bcast_S4096x64_S1x4096x64_1_2 (res_main_while0b_v61 V0)) (fun k => (((![V0 (Proc.devRef .tc main_v6_7), constantI S_ 32 0#32, constantI S_ 32 0#32] : Fin 3 → (⟨S_, .i32⟩ : BufTy).Contents (Elt F))) k (Shape.Idx.first h_S_)).toInt) updateFits_S50x4096x64_S1x4096x64 : (Proc.devRef .tc main_while0b_v76 : DevRef τ sig).ty.Contents (Elt F)) = Cert.RefStep.b89 j s := by
  unfold Cert.RefStep.b89
  rw [← al_86 h, ← al_87 h, ← al_88 h, h.f_9, h.n_7]
  try rfl

/-! One trip's step of the carried values is `step`, field by field; a counter steps to the next number. -/

set_option maxRecDepth 8192 in
theorem step_8 (h : Holds V0 s j) : step_main_v6_8 V0 = Cert.RefStep.b85 j s := by
  unfold step_main_v6_8
  rw [id_eq]
  exact al_85 h
set_option maxRecDepth 8192 in
theorem step_9 (h : Holds V0 s j) : step_main_v6_9 V0 = Cert.RefStep.b89 j s := by
  unfold step_main_v6_9
  rw [id_eq]
  exact al_89 h
theorem step_7 (h : Holds V0 s j) : step_main_v6_7 V0 = constantI S_ 32 (BitVec.ofNat 32 (j + 1)) := by
  unfold step_main_v6_7
  rw [h.n_7]
  funext i
  show BitVec.ofNat 32 j + 1#32 = BitVec.ofNat 32 (j + 1)
  simp only [BitVec.ofNat_add]

set_option maxRecDepth 8192 in
theorem out_main_v7_holds (h : Holds V0 s j) : out_main_v7 V0 = Cert.RefStep.R_main_v7 s := by
  unfold out_main_v7 Cert.RefStep.R_main_v7
  rw [h.f_9]
  try rfl

theorem trip_8 (h : Holds V0 s j) : STEP V0 (Proc.devRef .tc main_v6_8) = (step j s).main_v6_8 := by
  rw [Cert.RefStep.step_main_v6_8, STEP_main_v6_8]
  exact step_8 h
theorem trip_9 (h : Holds V0 s j) : STEP V0 (Proc.devRef .tc main_v6_9) = (step j s).main_v6_9 := by
  rw [Cert.RefStep.step_main_v6_9, STEP_main_v6_9]
  exact step_9 h

/-- One trip keeps the valuation holding: `step` of the state, the same set-up values, the next number. -/
theorem holds_step (h : Holds V0 s j) : Holds (STEP V0) (step j s) (j + 1) :=
  Holds.mk (trip_8 h) (trip_9 h) ((STEP_main_v6_0 V0).trans (h.f_0.trans (Cert.RefStep.step_main_v6_0 j s).symm)) ((STEP_main_v6_1 V0).trans (h.f_1.trans (Cert.RefStep.step_main_v6_1 j s).symm))
    ((STEP_main_v6_3 V0).trans (h.f_3.trans (Cert.RefStep.step_main_v6_3 j s).symm)) ((STEP_main_v6_4 V0).trans (h.f_4.trans (Cert.RefStep.step_main_v6_4 j s).symm)) ((STEP_main_v6_5 V0).trans (h.f_5.trans (Cert.RefStep.step_main_v6_5 j s).symm))
    ((STEP_main_v6_6 V0).trans (h.f_6.trans (Cert.RefStep.step_main_v6_6 j s).symm)) ((STEP_main_v6_7 V0).trans (step_7 h)) ((STEP_main_v6_2 V0).trans h.k_2)

/-- The state the first trip starts from, of the memory the run starts from. -/
abbrev initState (m : (ℓ : Loc nD τ sig) → Buf (Elt F) ℓ) (c : Dev nD) : State F :=
  init (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 50 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v7) = Cert.RefStep.R_main_v7 (it c 50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 50
    ⟨(h c).1.trans (out_main_v7_holds hk), (h c).2.1, (h c).2.2.1, (h c).2.2.2.1, (h c).2.2.2.2.1, (h c).2.2.2.2.2.1, (h c).2.2.2.2.2.2⟩) (Value.run m ρ)

end Cert.RefStepRun

end
-- ==== Proof.KernelStep.lean ====
/- The kernel's body as a recursion over its fifty steps: what one step computes of the step's input rows, the speakers' rows,
   the packed weights and the scratch memory, and the two lists of stores (into the output tile and into the scratch memory)
   that the steps make. -/
module

public import proofs.«01_k».proof.Proof.Gen.KernelIdeal.Frame

@[expose] public section

noncomputable section

namespace Cert.KStep

open Idealize.ShloMosaic Idealize.ShloMosaic.Tactic Idealize.SL.Sem Cert.KernelIdeal Cert.KernelIdeal.Gen

variable {F : FTy → Type} [FloatOps F]

/-! ## One step on tiles -/

/-- The six gate rows of one step: the packed weights times the step's input, the previous state and the pad. -/
def gates (w : Vec F S384x136 .f32) (x h : Vec F S64x1024 .f32) : FVec F S384x1024 .f32 :=
  matmul dot_S384x136_S136x1024_S384x1024_1_0_0_1_n_n none (shapeCast S384x136 w shapeCasts_S384x136_S384x136)
    (concatenate S136x1024 0 [⟨S64x1024, shapeCast S64x1024 x shapeCasts_S64x1024_S64x1024⟩, ⟨S64x1024, h⟩, ⟨S8x1024, k0_pay3⟩]
      concatenates_S64x1024_S64x1024_S8x1024_S136x1024_d0)
    (constant S384x1024 .f32 0x00000000#32)

def gateR (g : FVec F S384x1024 .f32) : FVec F S64x1024 .f32 :=
  logistic (addf (extractStridedSlice S64x1024 ![0, 0] g slices_S384x1024_o0_0_S64x1024)
    (extractStridedSlice S64x1024 ![192, 0] g slices_S384x1024_o192_0_S64x1024))

def gateZ (g : FVec F S384x1024 .f32) : FVec F S64x1024 .f32 :=
  logistic (addf (extractStridedSlice S64x1024 ![64, 0] g slices_S384x1024_o64_0_S64x1024)
    (extractStridedSlice S64x1024 ![256, 0] g slices_S384x1024_o256_0_S64x1024))

def gateN (g : FVec F S384x1024 .f32) : FVec F S64x1024 .f32 :=
  tanh (addf (extractStridedSlice S64x1024 ![128, 0] g slices_S384x1024_o128_0_S64x1024)
    (mulf (gateR g) (extractStridedSlice S64x1024 ![320, 0] g slices_S384x1024_o320_0_S64x1024)))

/-- The new state from the gate rows and the previous state. -/
def mix (g : FVec F S384x1024 .f32) (h : FVec F S64x1024 .f32) : FVec F S64x1024 .f32 :=
  addf (gateN g) (mulf (gateZ g) (subf h (gateN g)))

/-- Which lanes of a row of speakers name speaker `s`. -/
def mask (row : Vec F S1x1024 .i32) (s : ℕ) : IVec S1x1024 1 :=
  cmpi .eq (shapeCast S1x1024 row shapeCasts_S1x1024_S1x1024) (broadcast S1x1024 (BitVec.ofNat 32 s))

/-- Slot `s` after a step: the new state where the step's speaker is `s`, what the slot held elsewhere. -/
def slot (row : Vec F S1x1024 .i32) (s : ℕ) (hn old : FVec F S64x1024 .f32) : FVec F S64x1024 .f32 :=
  select (broadcastTo S64x1024 (shapeCast S1x1024 (mask (F := F) row s) shapeCasts_S1x1024_S1x1024) broadcasts_S1x1024_S64x1024) hn old

/-- A slot's part of the next state: its contents where the next step's speaker is `s`, zero elsewhere. -/
def part (row : Vec F S1x1024 .i32) (s : ℕ) (v : FVec F S64x1024 .f32) : FVec F S64x1024 .f32 :=
  mulf v (broadcastTo S64x1024 (sitofp .f32 (extui 32 (mask (F := F) row s) natLt_1_32)) broadcasts_S1x1024_S64x1024)

/-- The sum of the ten parts, in the kernel's pairwise order. -/
def tree (p : ℕ → FVec F S64x1024 .f32) : FVec F S64x1024 .f32 :=
  addf (addf (addf (addf (p 0) (p 1)) (addf (p 2) (p 3))) (addf (addf (p 4) (p 5)) (addf (p 6) (p 7)))) (addf (p 8) (p 9))

def zeroTile : FVec F S64x1024 .f32 := broadcast S64x1024 (Scalar.ofBits .f32 0x00000000#32)

/-! ## The stores -/

theorem inb_slot (s : ℕ) : ∀ a, ![s % 10, 0, 0] a + S1x64x1024.size a ≤ S10x64x1024.size a := by
  intro a
  have := Nat.mod_lt s (by decide : 10 > 0)
  fin_cases a
  · show s % 10 + 1 ≤ 10; omega
  · show 0 + 64 ≤ 64; omega
  · show 0 + 1024 ≤ 1024; omega

def slotRect (s : ℕ) : Rect S10x64x1024 := Rect.unit ![s % 10, 0, 0] S1x64x1024.size (inb_slot s)

theorem inb_x (t : ℕ) : ∀ a, ![64 * (t % 50), 0] a + S64x1024.size a ≤ S3200x1024.size a := by
  intro a
  have := Nat.mod_lt t (by decide : 50 > 0)
  fin_cases a
  · show 64 * (t % 50) + 64 ≤ 3200; omega
  · show 0 + 1024 ≤ 1024; omega

/-- The rows of step `t` in the input tile and in the output tile. -/
def stepRect (t : ℕ) : Rect S3200x1024 := Rect.unit ![64 * (t % 50), 0] S64x1024.size (inb_x t)

theorem inb_row (t : ℕ) : ∀ a, ![t % 50, 0] a + S1x1024.size a ≤ S50x1024.size a := by
  intro a
  have := Nat.mod_lt t (by decide : 50 > 0)
  fin_cases a
  · show t % 50 + 1 ≤ 50; omega
  · show 0 + 1024 ≤ 1024; omega

def rowRect (t : ℕ) : Rect S50x1024 := Rect.unit ![t % 50, 0] S1x1024.size (inb_row t)

variable (arg1 : Memref sig .tc .vmem S3200x1024 .f32) (harg1 : arg1.IsWhole) (arg2 : Memref sig .tc .vmem S50x1024 .i32) (harg2 : arg2.IsWhole)
  (arg3 : Memref sig .tc .vmem S384x136 .f32) (harg3 : arg3.IsWhole) (arg5 : Memref sig .tc .vmem S10x64x1024 .f32)
  (x0 : Vec F S3200x1024 .f32) (x1 : Vec F S50x1024 .i32) (x2 : Vec F S384x136 .f32)

/-- What the kernel loads: the input's rows, the speakers' row, the weights, a scratch slot after the stores `L`. -/
def ldX (t : ℕ) : Vec F S64x1024 .f32 := View.readAt (Elt F) arg1.view (stepRect t).toLoadRect (harg1.unread x0)
def ldS (t : ℕ) : Vec F S1x1024 .i32 := View.readAt (Elt F) arg2.view (rowRect t).toLoadRect (harg2.unread x1)
def ldW : Vec F S384x136 .f32 :=
  View.readAt (Elt F) arg3.view (Rect.unit ![0, 0] S384x136.size inb_S384x136_S384x136_0_0).toLoadRect (harg3.unread x2)
def ldM (L : List (View.Piece (Elt F) S10x64x1024 .f32)) (s : ℕ) : FVec F S64x1024 .f32 :=
  shapeCast S64x1024 (arg5.view.readCov L (slotRect s).toLoadRect) shapeCasts_S1x64x1024_S64x1024

/-- The store of one slot. -/
def piece (s : ℕ) (v : FVec F S64x1024 .f32) : View.Piece (Elt F) S10x64x1024 .f32 :=
  ⟨slotRect s, shapeCast S1x64x1024 v shapeCasts_S64x1024_S1x64x1024⟩

/-- The state of a step: the new state tile `hn` at step `t` over the previous tile `h`. -/
def hNew (t : ℕ) (h : FVec F S64x1024 .f32) : FVec F S64x1024 .f32 :=
  mix (gates (ldW arg3 harg3 x2) (ldX arg1 harg1 x0 t) h) h

/-- The scratch stores after the first `k` slots of step `t ≥ 1`, over the stores `L` before the step. -/
def stores (t : ℕ) (hn : FVec F S64x1024 .f32) (L : List (View.Piece (Elt F) S10x64x1024 .f32)) (k : ℕ) :
    List (View.Piece (Elt F) S10x64x1024 .f32) :=
  Nat.rec L (fun s L' => piece s (slot (ldS arg2 harg2 x1 t) s hn (ldM arg5 L' s)) :: L') k

/-- The same at step 0, where a slot that is not the speaker's is set to zero. -/
def stores0 (hn : FVec F S64x1024 .f32) (k : ℕ) : List (View.Piece (Elt F) S10x64x1024 .f32) :=
  Nat.rec [] (fun s L' => piece s (slot (ldS arg2 harg2 x1 0) s hn zeroTile) :: L') k

/-- The scratch stores through step `t` and the state tile that step `t + 1` starts from. -/
def run (t : ℕ) : List (View.Piece (Elt F) S10x64x1024 .f32) × FVec F S64x1024 .f32 :=
  Nat.rec
    (stores0 arg2 harg2 x1 (hNew arg1 harg1 arg3 harg3 x0 x2 0 zeroTile) 10,
      tree fun s => part (ldS arg2 harg2 x1 1) s
        (slot (ldS arg2 harg2 x1 0) s (hNew arg1 harg1 arg3 harg3 x0 x2 0 zeroTile) zeroTile))
    (fun n st =>
      (stores arg2 harg2 arg5 x1 (n + 1) (hNew arg1 harg1 arg3 harg3 x0 x2 (n + 1) st.2) st.1 10,
        tree fun s => part (ldS arg2 harg2 x1 (n + 2)) s
          (slot (ldS arg2 harg2 x1 (n + 1)) s (hNew arg1 harg1 arg3 harg3 x0 x2 (n + 1) st.2)
            (ldM arg5 (stores arg2 harg2 arg5 x1 (n + 1) (hNew arg1 harg1 arg3 harg3 x0 x2 (n + 1) st.2) st.1 s) s))))
    t

/-- The state tile that step `t` starts from. -/
def hPrev (t : ℕ) : FVec F S64x1024 .f32 :=
  Nat.rec zeroTile (fun n _ => (run arg1 harg1 arg2 harg2 arg3 harg3 arg5 x0 x1 x2 n).2) t

/-- The state tile that step `t` stores. -/
def hOut (t : ℕ) : FVec F S64x1024 .f32 :=
  hNew arg1 harg1 arg3 harg3 x0 x2 t (hPrev arg1 harg1 arg2 harg2 arg3 harg3 arg5 x0 x1 x2 t)

/-- The output tile's stores through the first `k` steps, the last first. -/
def outs (k : ℕ) : List (View.Piece (Elt F) S3200x1024 .f32) :=
  Nat.rec [] (fun t L => ⟨stepRect t, hOut arg1 harg1 arg2 harg2 arg3 harg3 arg5 x0 x1 x2 t⟩ :: L) k

/-- The run's stores into the output tile are the recursion's. -/
theorem pieces_eq (c : Dev nD) (i : grid0.Coords) (arg4 : Memref sig .tc .vmem S3200x1024 .f32) (harg4 : arg4.IsWhole) (harg5 : arg5.IsWhole) :
    (kernelRun0_A c i arg1 harg1 arg2 harg2 arg3 harg3 arg4 harg4 arg5 harg5 x0 x1 x2).1
      = outs arg1 harg1 arg2 harg2 arg3 harg3 arg5 x0 x1 x2 50 := by
  sl_kernel_rfl

end Cert.KStep

end
-- ==== Proof.KernelSlots.lean ====
/- The scratch memory's slots as a recursion on tiles: what a load of a slot reads after a step's stores, and so the state
   tile each step stores without mention of the memory. -/
module

public import proofs.«01_k».proof.Proof.KernelStep
public import Idealize.ShloMosaic.Lib.Pipeline.Value
public import Idealize.ShloMosaic.Lib.Pipeline.ValueKit.Tiles

@[expose] public section

noncomputable section

namespace Cert.KStep

open Idealize.ShloMosaic Idealize.ShloMosaic.Tactic Idealize.SL.Sem Cert.KernelIdeal Cert.KernelIdeal.Gen

variable {F : FTy → Type} [FloatOps F]
variable (arg1 : Memref sig .tc .vmem S3200x1024 .f32) (harg1 : arg1.IsWhole) (arg2 : Memref sig .tc .vmem S50x1024 .i32) (harg2 : arg2.IsWhole)
  (arg3 : Memref sig .tc .vmem S384x136 .f32) (harg3 : arg3.IsWhole) (arg5 : Memref sig .tc .vmem S10x64x1024 .f32)
  (x0 : Vec F S3200x1024 .f32) (x1 : Vec F S50x1024 .i32) (x2 : Vec F S384x136 .f32)

theorem cast_cast (v : FVec F S64x1024 .f32) :
    shapeCast S64x1024 (shapeCast S1x64x1024 v shapeCasts_S64x1024_S1x64x1024) shapeCasts_S1x64x1024_S64x1024 = v := by
  exact shapeCast_shapeCast v _ _

/-- A load of the slot stored last reads what was stored. -/
theorem ldM_hit (s : ℕ) (v : FVec F S64x1024 .f32) (L : List (View.Piece (Elt F) S10x64x1024 .f32)) :
    ldM arg5 (piece s v :: L) s = v := by
  unfold ldM piece
  rw [View.readCov_eq_canon']
  have h : (fun j => View.canon (⟨slotRect s, shapeCast S1x64x1024 v shapeCasts_S64x1024_S1x64x1024⟩ :: L) ((slotRect s).toLoadRect.idx j))
      = shapeCast S1x64x1024 v shapeCasts_S64x1024_S1x64x1024 := funext fun j => View.canon_cons_emb _ _ _ j
  rw [h]
  exact cast_cast v

theorem slotRect_idx (s : ℕ) (j : S1x64x1024.Idx) : (((slotRect s).idx j) 0 : ℕ) = s % 10 := by
  have e : (((slotRect s).idx j) 0 : ℕ) = s % 10 + (j 0 : ℕ) :=
    Rect.idx_unit_val (s := S10x64x1024) ![s % 10, 0, 0] S1x64x1024.size (inb_slot s) j 0
  have hj : (j 0 : ℕ) < 1 := (j 0).isLt
  omega

theorem slotRect_mem (s : ℕ) (i : S10x64x1024.Idx) (h : i ∈ (slotRect s).set) : ((i 0 : Fin _) : ℕ) = s % 10 := by
  unfold slotRect at h
  rw [Rect.mem_set_unit] at h
  have h1 : s % 10 ≤ ((i 0 : Fin _) : ℕ) := (h 0).1
  have h2 : ((i 0 : Fin _) : ℕ) < s % 10 + 1 := (h 0).2
  omega

/-- A load of another slot reads what was there before. -/
theorem ldM_miss (s k : ℕ) (hs : s < 10) (hk : k < 10) (h : s ≠ k) (v : FVec F S64x1024 .f32)
    (L : List (View.Piece (Elt F) S10x64x1024 .f32)) : ldM arg5 (piece k v :: L) s = ldM arg5 L s := by
  unfold ldM
  rw [View.readCov_eq_canon', View.readCov_eq_canon']
  refine congrArg (fun f => shapeCast S64x1024 f shapeCasts_S1x64x1024_S64x1024) (funext fun j => ?_)
  refine View.canon_cons_of_not_mem _ _ fun hc => h ?_
  have h1 := slotRect_mem k _ hc
  have h2 : (((slotRect s).toLoadRect.idx j) 0 : ℕ) = s % 10 := slotRect_idx s j
  rw [h2, Nat.mod_eq_of_lt hs, Nat.mod_eq_of_lt hk] at h1
  exact h1

/-- The slots after a step, loaded. -/
theorem ldM_stores (t : ℕ) (hn : FVec F S64x1024 .f32) (L : List (View.Piece (Elt F) S10x64x1024 .f32)) (s : ℕ) (hs : s < 10) :
    ∀ k, k ≤ 10 → ldM arg5 (stores arg2 harg2 arg5 x1 t hn L k) s
      = if s < k then slot (ldS arg2 harg2 x1 t) s hn (ldM arg5 L s) else ldM arg5 L s
  | 0, _ => by simp only [Nat.not_lt_zero, if_false]; rfl
  | k + 1, hk => by
    show ldM arg5 (piece k (slot (ldS arg2 harg2 x1 t) k hn (ldM arg5 (stores arg2 harg2 arg5 x1 t hn L k) k))
      :: stores arg2 harg2 arg5 x1 t hn L k) s = _
    by_cases h : s = k
    · subst h
      rw [ldM_hit, ldM_stores t hn L s hs s (by omega), if_neg (by omega), if_pos (by omega)]
    · rw [ldM_miss _ _ _ hs (by omega) h, ldM_stores t hn L s hs k (by omega)]
      by_cases h' : s < k
      · rw [if_pos h', if_pos (by omega)]
      · rw [if_neg h', if_neg (by omega)]

theorem ldM_stores0 (hn : FVec F S64x1024 .f32) (s : ℕ) (hs : s < 10) :
    ∀ k, k ≤ 10 → s < k → ldM arg5 (stores0 arg2 harg2 x1 hn k) s = slot (ldS arg2 harg2 x1 0) s hn zeroTile
  | 0, _, h => absurd h (Nat.not_lt_zero _)
  | k + 1, hk, hlt => by
    show ldM arg5 (piece k (slot (ldS arg2 harg2 x1 0) k hn zeroTile) :: stores0 arg2 harg2 x1 hn k) s = _
    by_cases h : s = k
    · subst h; rw [ldM_hit]
    · rw [ldM_miss _ _ _ hs (by omega) h, ldM_stores0 hn s hs k (by omega) (by omega)]

/-! ## The recursion on tiles, without the memory -/

/-- The slots before step `t`, for any rows of inputs and speakers, and the state tile step `t` stores. -/
def tiles (w : Vec F S384x136 .f32) (X : ℕ → Vec F S64x1024 .f32) (R : ℕ → Vec F S1x1024 .i32) (t : ℕ) :
    (ℕ → FVec F S64x1024 .f32) × FVec F S64x1024 .f32 :=
  Nat.rec (fun _ => zeroTile, mix (gates w (X 0) zeroTile) zeroTile)
    (fun n st =>
      (fun s => slot (R n) s st.2 (st.1 s),
        mix (gates w (X (n + 1)) (tree fun s => part (R (n + 1)) s (slot (R n) s st.2 (st.1 s))))
          (tree fun s => part (R (n + 1)) s (slot (R n) s st.2 (st.1 s)))))
    t

/-- The tile that step `t` of a run of `tiles` starts from. -/
def tilePrev (w : Vec F S384x136 .f32) (X : ℕ → Vec F S64x1024 .f32) (R : ℕ → Vec F S1x1024 .i32) (t : ℕ) : FVec F S64x1024 .f32 :=
  Nat.rec zeroTile (fun n _ => tree fun s => part (R (n + 1)) s ((tiles w X R (n + 1)).1 s)) t

theorem tiles_fst (w : Vec F S384x136 .f32) (X : ℕ → Vec F S64x1024 .f32) (R : ℕ → Vec F S1x1024 .i32) (n s : ℕ) :
    (tiles w X R (n + 1)).1 s = slot (R n) s (tiles w X R n).2 ((tiles w X R n).1 s) := rfl

theorem tiles_snd (w : Vec F S384x136 .f32) (X : ℕ → Vec F S64x1024 .f32) (R : ℕ → Vec F S1x1024 .i32) (t : ℕ) :
    (tiles w X R t).2 = mix (gates w (X t) (tilePrev w X R t)) (tilePrev w X R t) := by
  cases t <;> rfl

theorem tree_congr (p q : ℕ → FVec F S64x1024 .f32) (h : ∀ s, s < 10 → p s = q s) : tree p = tree q := by
  unfold tree
  rw [h 0 (by decide), h 1 (by decide), h 2 (by decide), h 3 (by decide), h 4 (by decide), h 5 (by decide), h 6 (by decide),
    h 7 (by decide), h 8 (by decide), h 9 (by decide)]

theorem run_zero_fst : (run arg1 harg1 arg2 harg2 arg3 harg3 arg5 x0 x1 x2 0).1
    = stores0 arg2 harg2 x1 (hNew arg1 harg1 arg3 harg3 x0 x2 0 zeroTile) 10 := by sl_kernel_rfl

theorem run_zero_snd : (run arg1 harg1 arg2 harg2 arg3 harg3 arg5 x0 x1 x2 0).2
    = tilePrev (ldW arg3 harg3 x2) (ldX arg1 harg1 x0) (ldS arg2 harg2 x1) 1 := by sl_kernel_rfl

theorem run_succ_fst (n : ℕ) : (run arg1 harg1 arg2 harg2 arg3 harg3 arg5 x0 x1 x2 (n + 1)).1
    = stores arg2 harg2 arg5 x1 (n + 1) (hNew arg1 harg1 arg3 harg3 x0 x2 (n + 1) (run arg1 harg1 arg2 harg2 arg3 harg3 arg5 x0 x1 x2 n).2)
        (run arg1 harg1 arg2 harg2 arg3 harg3 arg5 x0 x1 x2 n).1 10 := by sl_kernel_rfl

theorem run_succ_snd (n : ℕ) : (run arg1 harg1 arg2 harg2 arg3 harg3 arg5 x0 x1 x2 (n + 1)).2
    = tree fun s => part (ldS arg2 harg2 x1 (n + 2)) s
        (slot (ldS arg2 harg2 x1 (n + 1)) s (hNew arg1 harg1 arg3 harg3 x0 x2 (n + 1) (run arg1 harg1 arg2 harg2 arg3 harg3 arg5 x0 x1 x2 n).2)
          (ldM arg5 (stores arg2 harg2 arg5 x1 (n + 1) (hNew arg1 harg1 arg3 harg3 x0 x2 (n + 1)
            (run arg1 harg1 arg2 harg2 arg3 harg3 arg5 x0 x1 x2 n).2) (run arg1 harg1 arg2 harg2 arg3 harg3 arg5 x0 x1 x2 n).1 s) s)) := by
  sl_kernel_rfl

theorem hNew_eq (n : ℕ) (h : FVec F S64x1024 .f32)
    (e : h = tilePrev (ldW arg3 harg3 x2) (ldX arg1 harg1 x0) (ldS arg2 harg2 x1) n) :
    hNew arg1 harg1 arg3 harg3 x0 x2 n h = (tiles (ldW arg3 harg3 x2) (ldX arg1 harg1 x0) (ldS arg2 harg2 x1) n).2 := by
  rw [e, tiles_snd, hNew]

theorem tilePrev_succ (w : Vec F S384x136 .f32) (X : ℕ → Vec F S64x1024 .f32) (R : ℕ → Vec F S1x1024 .i32) (n : ℕ) :
    tilePrev w X R (n + 1) = tree fun s => part (R (n + 1)) s ((tiles w X R (n + 1)).1 s) := by sl_kernel_rfl

/-- The run with the memory is the recursion on tiles: its slots, loaded, and its next state. -/
theorem run_tiles (t : ℕ) :
    (∀ s, s < 10 → ldM arg5 (run arg1 harg1 arg2 harg2 arg3 harg3 arg5 x0 x1 x2 t).1 s
        = (tiles (ldW arg3 harg3 x2) (ldX arg1 harg1 x0) (ldS arg2 harg2 x1) (t + 1)).1 s)
      ∧ (run arg1 harg1 arg2 harg2 arg3 harg3 arg5 x0 x1 x2 t).2
        = tilePrev (ldW arg3 harg3 x2) (ldX arg1 harg1 x0) (ldS arg2 harg2 x1) (t + 1) := by
  induction t with
  | zero =>
    refine ⟨fun s hs => ?_, run_zero_snd arg1 harg1 arg2 harg2 arg3 harg3 arg5 x0 x1 x2⟩
    have e : zeroTile = tilePrev (ldW arg3 harg3 x2) (ldX arg1 harg1 x0) (ldS arg2 harg2 x1) 0 := by sl_kernel_rfl
    have e' : (tiles (ldW arg3 harg3 x2) (ldX arg1 harg1 x0) (ldS arg2 harg2 x1) 0).1 s = zeroTile := by sl_kernel_rfl
    rw [run_zero_fst, ldM_stores0 arg2 harg2 arg5 x1 _ s hs 10 le_rfl hs, hNew_eq _ _ arg2 harg2 _ _ _ x1 _ 0 _ e, tiles_fst, e']
  | succ n ih =>
    have hn := hNew_eq arg1 harg1 arg2 harg2 arg3 harg3 x0 x1 x2 (n + 1) _ ih.2
    refine ⟨fun s hs => ?_, ?_⟩
    · rw [run_succ_fst, ldM_stores _ _ _ _ _ _ _ s hs 10 le_rfl, if_pos hs, hn, ih.1 s hs, tiles_fst _ _ _ (n + 1)]
    · rw [run_succ_snd, tilePrev_succ]
      refine tree_congr _ _ fun s hs => ?_
      rw [ldM_stores _ _ _ _ _ _ _ s hs s (by omega), if_neg (by omega), hn, ih.1 s hs, tiles_fst _ _ _ (n + 1)]

/-- What step `t` stores in the output tile. -/
theorem hOut_eq (t : ℕ) : hOut arg1 harg1 arg2 harg2 arg3 harg3 arg5 x0 x1 x2 t
    = (tiles (ldW arg3 harg3 x2) (ldX arg1 harg1 x0) (ldS arg2 harg2 x1) t).2 := by
  unfold hOut
  refine hNew_eq arg1 harg1 arg2 harg2 arg3 harg3 x0 x1 x2 t _ ?_
  cases t with
  | zero => sl_kernel_rfl
  | succ n => exact (run_tiles arg1 harg1 arg2 harg2 arg3 harg3 arg5 x0 x1 x2 n).2

end Cert.KStep

end
-- ==== Proof.Spec.lean ====
/- The mathematics both programs compute, one batch row at a time over the extended reals: a gated recurrent cell whose
   state is taken from, and put back into, one of ten slots at each step. -/
module

public import Idealize.ShloMosaic.PureOps.Ideal

@[expose] public section

noncomputable section

namespace Cert.Spec

open Idealize.ShloMosaic

/-- The cell's weights: the input's and the state's matrices, three gates of 64 rows each, and their biases. -/
structure Weights where
  wi : ℕ → ℕ → EReal
  wh : ℕ → ℕ → EReal
  bi : ℕ → EReal
  bh : ℕ → EReal

variable (W : Weights)

/-- Row `r` of the input's linear form and of the state's. -/
def gi (x : ℕ → EReal) (r : ℕ) : EReal := (∑ k : Fin 64, x k * W.wi r k) + W.bi r
def gh (h : ℕ → EReal) (r : ℕ) : EReal := (∑ k : Fin 64, h k * W.wh r k) + W.bh r

/-- The reset gate, the update gate and the candidate. -/
def gr (x h : ℕ → EReal) (d : ℕ) : EReal := Ideal.logistic (gi W x d + gh W h d)
def gz (x h : ℕ → EReal) (d : ℕ) : EReal := Ideal.logistic (gi W x (64 + d) + gh W h (64 + d))
def gn (x h : ℕ → EReal) (d : ℕ) : EReal := Ideal.tanh (gi W x (128 + d) + gr W x h d * gh W h (128 + d))

/-- The new state, as the reference writes it and as the kernel does. -/
def cell (x h : ℕ → EReal) (d : ℕ) : EReal := (1 - gz W x h d) * gn W x h d + gz W x h d * h d
def cellK (x h : ℕ → EReal) (d : ℕ) : EReal := gn W x h d + gz W x h d * (h d - gn W x h d)

/-- The ten slots of one batch row before step `t`, and the state step `t` produces. -/
def bank (X : ℕ → ℕ → EReal) (S : ℕ → ℕ) : ℕ → ℕ → ℕ → EReal
  | 0, _, _ => 0
  | t + 1, s, d => if s = S t then cell W (X t) (bank X S t (S t)) d else bank X S t s d

def out (X : ℕ → ℕ → EReal) (S : ℕ → ℕ) (t d : ℕ) : EReal := cell W (X t) (bank W X S t (S t)) d

theorem bank_succ (X : ℕ → ℕ → EReal) (S : ℕ → ℕ) (t s d : ℕ) :
    bank W X S (t + 1) s d = if s = S t then out W X S t d else bank W X S t s d := rfl

/-! ## Every state is a real number -/

theorem exp_bot : Ideal.exp ⊥ = 0 := rfl
theorem exp_top : Ideal.exp ⊤ = ⊤ := rfl
theorem exp_coe (r : ℝ) : Ideal.exp (r : EReal) = (Real.exp r : EReal) := rfl

theorem logistic_real (x : EReal) : ∃ r : ℝ, Ideal.logistic x = r := by
  unfold Ideal.logistic Ideal.div
  induction x using EReal.rec with
  | bot => exact ⟨0, by rw [EReal.neg_bot, exp_top, show (1 : EReal) + ⊤ = ⊤ from EReal.coe_add_top 1]; simp⟩
  | top => exact ⟨1, by rw [EReal.neg_top, exp_bot]; simp⟩
  | coe r =>
    have h : (1 : EReal) + Ideal.exp (-(r : EReal)) = ((1 + Real.exp (-r) : ℝ) : EReal) := by
      rw [← EReal.coe_neg, exp_coe]; simp
    have hp : (1 + Real.exp (-r) : ℝ) ≠ 0 := by positivity
    rw [h, if_neg (by exact_mod_cast hp)]
    exact ⟨(1 + Real.exp (-r))⁻¹, by rw [one_mul, EReal.coe_inv]⟩

theorem tanh_real (x : EReal) : ∃ r : ℝ, Ideal.tanh x = r := by
  induction x using EReal.rec with
  | bot => exact ⟨-1, by rw [show Ideal.tanh ⊥ = -1 from rfl]; simp⟩
  | top => exact ⟨1, by rw [show Ideal.tanh ⊤ = 1 from rfl]; simp⟩
  | coe r => exact ⟨Real.tanh r, rfl⟩

/-- The two forms of the new state agree where the previous state is a real number, and the new state is one. -/
theorem cell_eq (x h : ℕ → EReal) (d : ℕ) (hh : ∃ r : ℝ, h d = r) :
    cellK W x h d = cell W x h d ∧ ∃ r : ℝ, cell W x h d = r := by
  obtain ⟨a, ha⟩ := hh
  obtain ⟨z, hz⟩ := logistic_real (gi W x (64 + d) + gh W h (64 + d))
  obtain ⟨n, hn⟩ := tanh_real (gi W x (128 + d) + gr W x h d * gh W h (128 + d))
  have hz' : gz W x h d = z := hz
  have hn' : gn W x h d = n := hn
  unfold cellK cell
  rw [hz', hn', ha]
  have h1 : (1 : EReal) = ((1 : ℝ) : EReal) := rfl
  rw [h1]
  refine ⟨?_, ⟨(1 - z) * n + z * a, by norm_cast⟩⟩
  rw [← EReal.coe_sub, ← EReal.coe_sub, ← EReal.coe_mul, ← EReal.coe_mul, ← EReal.coe_mul, ← EReal.coe_add, ← EReal.coe_add]
  refine congrArg _ ?_
  ring

theorem bank_real (X : ℕ → ℕ → EReal) (S : ℕ → ℕ) : ∀ t s d, ∃ r : ℝ, bank W X S t s d = r
  | 0, _, _ => ⟨0, rfl⟩
  | t + 1, s, d => by
    rw [bank_succ]
    by_cases h : s = S t
    · rw [if_pos h]; exact (cell_eq W (X t) _ d (bank_real X S t (S t) d)).2
    · rw [if_neg h]; exact bank_real X S t s d

/-- The packed weights: the input's matrix, then the state's below and to the right of it, then a column of biases. -/
def pack (r k : ℕ) : EReal :=
  if r < 192 then (if k < 64 then W.wi r k else if k = 128 then W.bi r else 0)
  else (if k < 64 then 0 else if k < 128 then W.wh (r - 192) (k - 64) else if k = 128 then W.bh (r - 192) else 0)

/-- The packed weights times the input, the state, a one and zeros are the two linear forms. -/
theorem contract (x h v : ℕ → EReal) (r : ℕ) (hx : ∀ k, k < 64 → v k = x k) (hh : ∀ k, k < 64 → v (64 + k) = h k)
    (hp : ∀ k, v (128 + k) = if k = 0 then 1 else 0) :
    (∑ k : Fin 136, pack W r k * v k) = if r < 192 then gi W x r else gh W h (r - 192) := by
  rw [Fin.sum_univ_eq_sum_range (fun k => pack W r k * v k) 136, show 136 = 64 + 64 + 8 from rfl, Finset.sum_range_add, Finset.sum_range_add]
  have e3 : ∑ k ∈ Finset.range 8, pack W r (64 + 64 + k) * v (64 + 64 + k) = pack W r 128 := by
    rw [Finset.sum_eq_single 0]
    · have := hp 0
      rw [show 64 + 64 + 0 = 128 + 0 from rfl, this, if_pos rfl, mul_one]
    · intro k _ hk
      rw [show 64 + 64 + k = 128 + k by omega, hp k, if_neg hk, mul_zero]
    · intro h0; exact absurd (Finset.mem_range.2 (by decide)) h0
  have e1 : ∑ k ∈ Finset.range 64, pack W r k * v k = ∑ k ∈ Finset.range 64, (if r < 192 then x k * W.wi r k else 0) := by
    refine Finset.sum_congr rfl fun k hk => ?_
    have hk := Finset.mem_range.1 hk
    rw [hx k hk]; unfold pack
    by_cases hr : r < 192
    · rw [if_pos hr, if_pos hr, if_pos hk, mul_comm]
    · rw [if_neg hr, if_neg hr, if_pos hk, zero_mul]
  have e2 : ∑ k ∈ Finset.range 64, pack W r (64 + k) * v (64 + k) = ∑ k ∈ Finset.range 64, (if r < 192 then 0 else h k * W.wh (r - 192) k) := by
    refine Finset.sum_congr rfl fun k hk => ?_
    have hk := Finset.mem_range.1 hk
    rw [hh k hk]; unfold pack
    by_cases hr : r < 192
    · rw [if_pos hr, if_pos hr, if_neg (by omega), if_neg (by omega), zero_mul]
    · rw [if_neg hr, if_neg hr, if_neg (by omega), if_pos (by omega), mul_comm, Nat.add_sub_cancel_left]
  rw [e1, e2, e3]
  unfold pack gi gh
  by_cases hr : r < 192
  · simp only [hr, if_true, Finset.sum_const_zero, add_zero, Fin.sum_univ_eq_sum_range (fun k => x k * W.wi r k) 64]
    rfl
  · simp only [hr, if_false, Finset.sum_const_zero, zero_add, Fin.sum_univ_eq_sum_range (fun k => h k * W.wh (r - 192) k) 64]
    rfl

theorem out_eq (X : ℕ → ℕ → EReal) (S : ℕ → ℕ) (t d : ℕ) :
    out W X S t d = cellK W (X t) (bank W X S t (S t)) d :=
  ((cell_eq W (X t) _ d (bank_real W X S t (S t) d)).1).symm

/-- The kernel's choice of a slot: ten products with a zero or a one, added up. -/
theorem pick (v : ℕ → EReal) (q : ℕ) (hq : q < 10) (p : ℕ → EReal) (hp : ∀ s, s < 10 → p s = v s * (if q = s then 1 else 0)) :
    p 0 + p 1 + (p 2 + p 3) + (p 4 + p 5 + (p 6 + p 7)) + (p 8 + p 9) = v q := by
  rw [hp 0 (by decide), hp 1 (by decide), hp 2 (by decide), hp 3 (by decide), hp 4 (by decide), hp 5 (by decide), hp 6 (by decide),
    hp 7 (by decide), hp 8 (by decide), hp 9 (by decide)]
  interval_cases q <;> simp

end Cert.Spec

end
-- ==== Proof.KernelElem.lean ====
/- The kernel's recursion on tiles, read at one element of one lane over the extended reals: with packed weights and speakers in
   range, the slots and the stored state are those of the mathematics. -/
module

public import proofs.«01_k».proof.Proof.KernelSlots
public import proofs.«01_k».proof.Proof.Spec
public import Idealize.ShloMosaic.Lib.Pointwise
public import Idealize.ShloMosaic.Lib.IdealHost

@[expose] public section

set_option maxRecDepth 16384

noncomputable section

namespace Cert.KStep

open Idealize.ShloMosaic Idealize.SL.Sem Cert.KernelIdeal Cert.KernelIdeal.Gen Cert.Spec

/-! ## Words -/

theorem cmpi_ofNat (a b : ℕ) (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · rw [h, if_pos rfl, beq_self_eq_true]; rfl
  · have h' : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h, beq_eq_false_iff_ne.2 h']; rfl

theorem select_if {α : Type} (p : Prop) [Decidable p] (a b : α) : Scalar.select (if p then 1#1 else 0#1) a b = if p then a else b := by
  unfold Scalar.select
  by_cases h : p
  · rw [if_pos h, if_pos h]; exact if_pos rfl
  · rw [if_neg h, if_neg h]; exact if_neg (by decide)

theorem toFloat_if (p : Prop) [Decidable p] :
    FloatOps.sitofp (F := Ideal) FTy.f32 (BitVec.setWidth 32 (if p then 1#1 else 0#1)) = if p then 1 else 0 := by
  by_cases h : p
  · rw [if_pos h, if_pos h]
    show (((BitVec.setWidth 32 1#1).toInt : ℝ) : EReal) = 1
    rw [show (BitVec.setWidth 32 1#1).toInt = 1 by decide]; norm_num
  · rw [if_neg h, if_neg h]
    show (((BitVec.setWidth 32 0#1).toInt : ℝ) : EReal) = 0
    rw [show (BitVec.setWidth 32 0#1).toInt = 0 by decide]; norm_num

/-! ## One step's tiles at an element -/

theorem pad_apply (a : Fin 8) (l : Fin 1024) : k0_pay3 (F := Ideal) (ix2 a l) = if (a : ℕ) = 0 then 1 else 0 := by
  unfold k0_pay3
  pointwise
  rw [show (0#32 : BitVec 32) = BitVec.ofNat 32 0 from rfl, cmpi_ofNat _ _ (by omega) (by decide), select_if]

theorem zero_apply (d : Fin 64) (l : Fin 1024) : zeroTile (F := Ideal) (ix2 d l) = 0 := by
  unfold zeroTile
  pointwise

/-- Entry `k` of a lane's column of input, state and pad. -/
def col (x h : Vec Ideal S64x1024 .f32) (l : Fin 1024) (k : ℕ) : EReal :=
  if h1 : k < 64 then x (ix2 ⟨k, h1⟩ l)
  else if h2 : k - 64 < 64 then h (ix2 ⟨k - 64, h2⟩ l) else if k = 128 then 1 else 0

theorem gates_apply (w : Vec Ideal S384x136 .f32) (x h : Vec Ideal S64x1024 .f32) (r : Fin 384) (l : Fin 1024) :
    gates w x h (ix2 r l) = ∑ k : Fin 136, w (ix2 r k) * col x h l k := by
  unfold gates
  pointwise
  refine Finset.sum_congr rfl fun k _ => congrArg _ ?_
  unfold col
  by_cases h1 : (k : ℕ) < 64
  · rw [dif_pos h1, dif_pos h1]
  · rw [dif_neg h1, dif_neg h1]
    by_cases h2 : (k : ℕ) - 64 < 64
    · rw [dif_pos h2, dif_pos h2]
    · rw [dif_neg h2, dif_neg h2, pad_apply]
      have hk := k.isLt
      exact if_congr (by show (k : ℕ) - 64 - 64 = 0 ↔ (k : ℕ) = 128; omega) rfl rfl

variable (W : Weights) (l : Fin 1024)

/-- The gate rows are the two linear forms. -/
theorem gates_lin (w : Vec Ideal S384x136 .f32) (hw : ∀ (r : Fin 384) (k : Fin 136), w (ix2 r k) = pack W r k)
    (x h : Vec Ideal S64x1024 .f32) (xs hs : ℕ → EReal) (hx : ∀ k : Fin 64, x (ix2 k l) = xs k) (hh : ∀ k : Fin 64, h (ix2 k l) = hs k)
    (r : ℕ) (hr : r < 384) : gates w x h (ix2 ⟨r, hr⟩ l) = if r < 192 then gi W xs r else gh W hs (r - 192) := by
  rw [gates_apply]
  have e : ∀ k : Fin 136, w (ix2 ⟨r, hr⟩ k) * col x h l k = pack W r k * col x h l k := fun k => by rw [hw]
  rw [Finset.sum_congr rfl fun k _ => e k]
  refine contract W xs hs (col x h l) r (fun k hk => ?_) (fun k hk => ?_) (fun k => ?_)
  · unfold col; rw [dif_pos hk]; exact hx ⟨k, hk⟩
  · unfold col; rw [dif_neg (by omega), dif_pos (by omega)]
    have := hh ⟨k, hk⟩
    simp only [Nat.add_sub_cancel_left]
    exact this
  · unfold col; rw [dif_neg (by omega), dif_neg (by omega)]
    exact if_congr (by omega) rfl rfl

theorem mix_apply (w : Vec Ideal S384x136 .f32) (hw : ∀ (r : Fin 384) (k : Fin 136), w (ix2 r k) = pack W r k)
    (x h : Vec Ideal S64x1024 .f32) (xs hs : ℕ → EReal) (hx : ∀ k : Fin 64, x (ix2 k l) = xs k) (hh : ∀ k : Fin 64, h (ix2 k l) = hs k)
    (d : Fin 64) : mix (gates w x h) h (ix2 d l) = cellK W xs hs d := by
  have hd := d.isLt
  have g := gates_lin W l w hw x h xs hs hx hh
  have lo : ∀ (r : ℕ) (hr : r < 384), r < 192 → gates w x h (ix2 ⟨r, hr⟩ l) = gi W xs r := fun r hr h' => by rw [g, if_pos h']
  have hi : ∀ (r q : ℕ) (hr : r < 384), r = 192 + q → gates w x h (ix2 ⟨r, hr⟩ l) = gh W hs q := fun r q hr h' => by
    rw [g, if_neg (by omega), h', Nat.add_sub_cancel_left]
  unfold mix gateZ gateN gateR
  pointwise
  rw [lo (128 + d) (by omega) (by omega), lo d (by omega) (by omega), lo (64 + d) (by omega) (by omega),
    hi (192 + d) d (by omega) rfl, hi (256 + d) (64 + d) (by omega) (by omega), hi (320 + d) (128 + d) (by omega) (by omega), hh]
  rfl

theorem slot_apply (row : Vec Ideal S1x1024 .i32) (q : ℕ) (hq : q < 10) (hrow : row (ix2 0 l) = BitVec.ofNat 32 q) (s : ℕ) (hs : s < 10)
    (hn old : FVec Ideal S64x1024 .f32) (d : Fin 64) : slot row s hn old (ix2 d l) = if s = q then hn (ix2 d l) else old (ix2 d l) := by
  unfold slot mask
  pointwise
  rw [hrow, cmpi_ofNat _ _ (by omega) (by omega), select_if]
  exact if_congr eq_comm rfl rfl

theorem part_apply (row : Vec Ideal S1x1024 .i32) (q : ℕ) (hq : q < 10) (hrow : row (ix2 0 l) = BitVec.ofNat 32 q) (s : ℕ) (hs : s < 10)
    (v : FVec Ideal S64x1024 .f32) (d : Fin 64) : part row s v (ix2 d l) = v (ix2 d l) * if q = s then 1 else 0 := by
  unfold part mask
  pointwise
  rw [hrow, cmpi_ofNat _ _ (by omega) (by omega), toFloat_if]

theorem tree_apply (p : ℕ → FVec Ideal S64x1024 .f32) (j : S64x1024.Idx) :
    tree p j = p 0 j + p 1 j + (p 2 j + p 3 j) + (p 4 j + p 5 j + (p 6 j + p 7 j)) + (p 8 j + p 9 j) := rfl

/-! ## The recursion at an element -/

section
variable (w : Vec Ideal S384x136 .f32) (hw : ∀ (r : Fin 384) (k : Fin 136), w (ix2 r k) = pack W r k)
  (X : ℕ → Vec Ideal S64x1024 .f32) (R : ℕ → Vec Ideal S1x1024 .i32) (Xs : ℕ → ℕ → EReal) (S : ℕ → ℕ)
  (hX : ∀ (t : ℕ) (k : Fin 64), X t (ix2 k l) = Xs t k) (hR : ∀ t, R t (ix2 0 l) = BitVec.ofNat 32 (S t)) (hS : ∀ t, S t < 10)
include hw hX hR hS

theorem tiles_bank (t : ℕ) : (∀ s, s < 10 → ∀ d : Fin 64, (tiles w X R t).1 s (ix2 d l) = bank W Xs S t s d)
    ∧ (∀ d : Fin 64, tilePrev w X R t (ix2 d l) = bank W Xs S t (S t) d)
    ∧ ∀ d : Fin 64, (tiles w X R t).2 (ix2 d l) = out W Xs S t d := by
  have key : ∀ t, (∀ d : Fin 64, tilePrev w X R t (ix2 d l) = bank W Xs S t (S t) d) →
      ∀ d : Fin 64, (tiles w X R t).2 (ix2 d l) = out W Xs S t d := fun t h d => by
    rw [tiles_snd, out_eq]
    exact mix_apply W l w hw (X t) _ (Xs t) _ (hX t) h d
  induction t with
  | zero =>
    have h0 : ∀ d : Fin 64, tilePrev w X R 0 (ix2 d l) = bank W Xs S 0 (S 0) d := fun d => zero_apply d l
    exact ⟨fun s _ d => zero_apply d l, h0, key 0 h0⟩
  | succ n ih =>
    have h1 : ∀ s, s < 10 → ∀ d : Fin 64, (tiles w X R (n + 1)).1 s (ix2 d l) = bank W Xs S (n + 1) s d := fun s hs d => by
      rw [tiles_fst, slot_apply l (R n) (S n) (hS n) (hR n) s hs, bank_succ, ih.1 s hs, ih.2.2]
    have h2 : ∀ d : Fin 64, tilePrev w X R (n + 1) (ix2 d l) = bank W Xs S (n + 1) (S (n + 1)) d := fun d => by
      rw [tilePrev_succ, tree_apply]
      exact pick (fun s => bank W Xs S (n + 1) s d) (S (n + 1)) (hS _)
        (fun s => part (R (n + 1)) s ((tiles w X R (n + 1)).1 s) (ix2 d l))
        (fun s hs => by
          show part (R (n + 1)) s ((tiles w X R (n + 1)).1 s) (ix2 d l) = _
          rw [part_apply l (R (n + 1)) (S (n + 1)) (hS _) (hR _) s hs, h1 s hs])
    exact ⟨h1, h2, key _ h2⟩

end

end Cert.KStep

end
-- ==== Proof.KernelBlock.lean ====
/- What the kernel's body leaves in its output tile, read at an element: the mathematics' state of that step, lane and row. -/
module

public import proofs.«01_k».proof.Proof.KernelElem

@[expose] public section

set_option maxRecDepth 16384

noncomputable section

namespace Cert.KStep

open Idealize.ShloMosaic Idealize.ShloMosaic.Tactic Idealize.SL.Sem Cert.KernelIdeal Cert.KernelIdeal.Gen Cert.Spec

/-- Row `d` of step `t`'s rows. -/
def rowOf (t : ℕ) (d : Fin 64) : Fin 3200 := ⟨64 * (t % 50) + d, by have := Nat.mod_lt t (by decide : 50 > 0); omega⟩
def stepOf (t : ℕ) : Fin 50 := ⟨t % 50, Nat.mod_lt t (by decide)⟩

theorem stepRect_emb (t : ℕ) (d : Fin 64) (l : Fin 1024) : (stepRect t).emb (ix2 d l) = ix2 (rowOf t d) l := by
  funext a
  apply Fin.ext
  have e := Rect.idx_unit_val (s := S3200x1024) ![64 * (t % 50), 0] S64x1024.size (inb_x t) (ix2 d l) a
  refine Eq.trans e ?_
  match a with
  | ⟨0, _⟩ => rfl
  | ⟨1, _⟩ => exact Nat.zero_add _

theorem rowRect_emb (t : ℕ) (l : Fin 1024) : (rowRect t).emb (ix2 0 l) = ix2 (stepOf t) l := by
  funext a
  apply Fin.ext
  have e := Rect.idx_unit_val (s := S50x1024) ![t % 50, 0] S1x1024.size (inb_row t) (ix2 0 l) a
  refine Eq.trans e ?_
  match a with
  | ⟨0, _⟩ => rfl
  | ⟨1, _⟩ => exact Nat.zero_add _

theorem whole_emb (r : Fin 384) (k : Fin 136) :
    (Rect.unit (s := S384x136) ![0, 0] S384x136.size inb_S384x136_S384x136_0_0).emb (ix2 r k) = ix2 r k := by
  funext a
  apply Fin.ext
  have e := Rect.idx_unit_val (s := S384x136) ![0, 0] S384x136.size inb_S384x136_S384x136_0_0 (ix2 r k) a
  refine Eq.trans e ?_
  match a with
  | ⟨0, _⟩ => exact Nat.zero_add _
  | ⟨1, _⟩ => exact Nat.zero_add _

theorem stepRect_mem (t : ℕ) (r : Fin 3200) (l : Fin 1024) (h : ix2 r l ∈ (stepRect t).set) :
    64 * (t % 50) ≤ (r : ℕ) ∧ (r : ℕ) < 64 * (t % 50) + 64 := by
  unfold stepRect at h
  rw [Rect.mem_set_unit] at h
  exact h 0

section
variable {F : FTy → Type} [FloatOps F]
variable (arg1 : Memref sig .tc .vmem S3200x1024 .f32) (harg1 : arg1.IsWhole) (arg2 : Memref sig .tc .vmem S50x1024 .i32) (harg2 : arg2.IsWhole)
  (arg3 : Memref sig .tc .vmem S384x136 .f32) (harg3 : arg3.IsWhole) (arg4 : Memref sig .tc .vmem S3200x1024 .f32) (harg4 : arg4.IsWhole)
  (arg5 : Memref sig .tc .vmem S10x64x1024 .f32) (harg5 : arg5.IsWhole)
  (x0 : Vec F S3200x1024 .f32) (x1 : Vec F S50x1024 .i32) (x2 : Vec F S384x136 .f32)

theorem ldX_apply (t : ℕ) (d : Fin 64) (l : Fin 1024) : ldX arg1 harg1 x0 t (ix2 d l) = x0 (ix2 (rowOf t d) l) := by
  unfold ldX
  rw [View.readAt_eq_ld, harg1.read_unread]
  exact congrArg x0 (stepRect_emb t d l)

theorem ldS_apply (t : ℕ) (l : Fin 1024) : ldS arg2 harg2 x1 t (ix2 0 l) = x1 (ix2 (stepOf t) l) := by
  unfold ldS
  rw [View.readAt_eq_ld, harg2.read_unread]
  exact congrArg x1 (rowRect_emb t l)

theorem ldW_apply (r : Fin 384) (k : Fin 136) : ldW arg3 harg3 x2 (ix2 r k) = x2 (ix2 r k) := by
  unfold ldW
  rw [View.readAt_eq_ld, harg3.read_unread]
  exact congrArg x2 (whole_emb r k)

/-- The stores of the first `k` steps, read at a row of step `t`. -/
theorem outs_canon (t : ℕ) (ht : t < 50) (d : Fin 64) (l : Fin 1024) : ∀ k, t < k → k ≤ 50 →
    View.canon (outs arg1 harg1 arg2 harg2 arg3 harg3 arg5 x0 x1 x2 k) (ix2 (rowOf t d) l)
      = hOut arg1 harg1 arg2 harg2 arg3 harg3 arg5 x0 x1 x2 t (ix2 d l)
  | 0, h, _ => absurd h (Nat.not_lt_zero _)
  | k + 1, h, hk => by
    show View.canon (⟨stepRect k, hOut arg1 harg1 arg2 harg2 arg3 harg3 arg5 x0 x1 x2 k⟩
      :: outs arg1 harg1 arg2 harg2 arg3 harg3 arg5 x0 x1 x2 k) (ix2 (rowOf t d) l) = _
    by_cases e : t = k
    · subst e
      rw [← stepRect_emb t d l]
      exact View.canon_cons_emb (stepRect t) _ _ (ix2 d l)
    · rw [View.canon_cons_of_not_mem, outs_canon t ht d l k (by omega) (by omega)]
      intro hm
      have h1 := stepRect_mem k (rowOf t d) l hm
      have h2 : ((rowOf t d : Fin 3200) : ℕ) = 64 * (t % 50) + d := rfl
      have hd := d.isLt
      rw [h2, Nat.mod_eq_of_lt ht, Nat.mod_eq_of_lt (by omega : k < 50)] at h1
      omega

theorem out_apply (c : Dev nD) (i : grid0.Coords) (t : ℕ) (ht : t < 50) (d : Fin 64) (l : Fin 1024) :
    out0_A_3 c i arg1 harg1 arg2 harg2 arg3 harg3 arg4 harg4 arg5 harg5 x0 x1 x2 (ix2 (rowOf t d) l)
      = (tiles (ldW arg3 harg3 x2) (ldX arg1 harg1 x0) (ldS arg2 harg2 x1) t).2 (ix2 d l) := by
  unfold out0_A_3
  rw [View.read_writes_eq_canon _ _ _ (cover0_A_3 c i arg1 harg1 arg2 harg2 arg3 harg3 arg4 harg4 arg5 harg5 x0 x1 x2), pieces_eq,
    outs_canon arg1 harg1 arg2 harg2 arg3 harg3 arg5 x0 x1 x2 t ht d l 50 ht le_rfl, hOut_eq]

end

variable (arg1 : Memref sig .tc .vmem S3200x1024 .f32) (harg1 : arg1.IsWhole) (arg2 : Memref sig .tc .vmem S50x1024 .i32) (harg2 : arg2.IsWhole)
  (arg3 : Memref sig .tc .vmem S384x136 .f32) (harg3 : arg3.IsWhole) (arg4 : Memref sig .tc .vmem S3200x1024 .f32) (harg4 : arg4.IsWhole)
  (arg5 : Memref sig .tc .vmem S10x64x1024 .f32) (harg5 : arg5.IsWhole)
  (x0 : Vec Ideal S3200x1024 .f32) (x1 : Vec Ideal S50x1024 .i32) (x2 : Vec Ideal S384x136 .f32)

/-- The body's output at step `t`, row `d`, lane `l`. -/
theorem block_value (c : Dev nD) (i : grid0.Coords) (W : Weights) (hw : ∀ (r : Fin 384) (k : Fin 136), x2 (ix2 r k) = pack W r k)
    (l : Fin 1024) (Xs : ℕ → ℕ → EReal) (S : ℕ → ℕ) (hX : ∀ (t : ℕ) (k : Fin 64), x0 (ix2 (rowOf t k) l) = Xs t k)
    (hR : ∀ t, x1 (ix2 (stepOf t) l) = BitVec.ofNat 32 (S t)) (hS : ∀ t, S t < 10) (t : ℕ) (ht : t < 50) (d : Fin 64) :
    out0_A_3 c i arg1 harg1 arg2 harg2 arg3 harg3 arg4 harg4 arg5 harg5 x0 x1 x2 (ix2 (rowOf t d) l) = out W Xs S t d := by
  rw [out_apply arg1 harg1 arg2 harg2 arg3 harg3 arg4 harg4 arg5 harg5 x0 x1 x2 c i t ht d l]
  exact (tiles_bank W l _ (fun r k => (ldW_apply arg3 harg3 x2 r k).trans (hw r k)) _ _ Xs S
    (fun t k => (ldX_apply arg1 harg1 x0 t k l).trans (hX t k)) (fun t => (ldS_apply arg2 harg2 x1 t l).trans (hR t)) hS t).2.2 d

end Cert.KStep

end
-- ==== Proof.Scatter.lean ====
/- Where an update of a scatter lands, as equations in integers. -/
module

public import Idealize.ShloMosaic.Lib.Routing.OpsSet

@[expose] public section

namespace Cert.Scatter

open Idealize.ShloMosaic

theorem resultIdx_iff {s si u : Shape} {w : ℕ} (d : ScatterDims s si u) (k : u.Idx) (idx : IVec si w) (ι : s.Idx) :
    d.resultIdx? k idx = some ι ↔ ∀ a, d.start k idx a + (d.window k a : ℤ) = ((ι a : ℕ) : ℤ) := by
  unfold ScatterDims.resultIdx?
  constructor
  · intro h a
    by_cases hc : ∀ a, 0 ≤ d.start k idx a + d.window k a ∧ d.start k idx a + d.window k a < s.size a
    · rw [dif_pos hc] at h
      have e := congrArg Fin.val (congrFun (Option.some.inj h) a)
      have := hc a
      dsimp only at e
      omega
    · rw [dif_neg hc] at h; cases h
  · intro h
    have hc : ∀ a, 0 ≤ d.start k idx a + d.window k a ∧ d.start k idx a + d.window k a < s.size a := fun a => by
      have := h a
      have hl : ((ι a : ℕ)) < s.size a := (ι a).isLt
      omega
    rw [dif_pos hc]
    refine congrArg some (funext fun a => Fin.ext ?_)
    have := h a
    dsimp only
    omega

end Cert.Scatter
-- ==== Proof.KernelHost.lean ====
/- What the kernel's region finds in its three input arrays: the input and the speakers with the batch along the lanes, and the
   packed weights. -/
module

public import proofs.«01_k».proof.Proof.KernelBlock
public import proofs.«01_k».proof.Proof.Scatter

@[expose] public section

set_option maxRecDepth 16384

noncomputable section

namespace Cert.KHost

open Idealize.ShloMosaic Idealize.ShloMosaic.TcCoe Idealize.SL.Sem Cert.KernelIdeal Cert.KernelIdeal.Gen Cert.Spec

section
variable {F : FTy → Type} [FloatOps F]
variable (m : (ℓ : Loc nD τ sig) → Buf (Elt F) ℓ) (c : Dev nD)

/-- The two start indices of a block of the packed weights. -/
def corner (a b : BitVec 32) : IVec S2 32 :=
  concatenate S2 0 [⟨S1, broadcastInDim S1 ![] bcast_S_S1 (constantI S_ 32 a)⟩, ⟨S1, broadcastInDim S1 ![] bcast_S_S1 (constantI S_ 32 b)⟩]
    concatenates_S1_S1_S2_d0

/-- The packed weights as they are built: zeros, the two matrices, the column of biases. -/
def w0 : Vec F S384x136 .f32 := broadcastInDim S384x136 ![] bcast_S_S384x136 (constant S_ .f32 0x00000000#32)
def w4 (a2 : Vec F S192x64 .f32) : Vec F S384x136 .f32 :=
  Host.scatter scatter_S384x136_S2_S192x64_01_n_01_0 (fun _ b => b) w0 (corner 0#32 0#32) a2
def w8 (a2 a3 : Vec F S192x64 .f32) : Vec F S384x136 .f32 :=
  Host.scatter scatter_S384x136_S2_S192x64_01_n_01_0 (fun _ b => b) (w4 a2) (corner 192#32 64#32) a3
def bias (a4 a5 : Vec F S192 .f32) : Vec F S384 .f32 := concatenate S384 0 [⟨S192, a4⟩, ⟨S192, a5⟩] concatenates_S192_S192_S384_d0
def w11 (a2 a3 : Vec F S192x64 .f32) (a4 a5 : Vec F S192 .f32) : Vec F S384x136 .f32 :=
  Host.scatter scatter_S384x136_S1_S384_0_1_1_0 (fun _ b => b) (w8 a2 a3)
    (broadcastInDim S1 ![] bcast_S_S1 (constantI S_ 32 128#32)) (bias a4 a5)

def xT (a0 : Vec F S4096x50x64 .f32) : Vec F S3200x4096 .f32 :=
  transpose S3200x4096 [1, 0] (shapeCast S4096x3200 a0 shapeCasts_S4096x50x64_S4096x3200) transposes_S4096x3200_S3200x4096_1_0
def sT (a1 : Vec F S4096x50 .i32) : Vec F S50x4096 .i32 := transpose S50x4096 [1, 0] a1 transposes_S4096x50_S50x4096_1_0

theorem V_w : V m c main_v11 = w11 (m (c, main_arg2)) (m (c, main_arg3)) (m (c, main_arg4)) (m (c, main_arg5)) := by
  show StableHlo.after (hostOps0) (fun b => m (c, b)) main_v11 = _
  after_results_simp
  rfl

theorem V_x : V m c main_v13 = xT (m (c, main_arg0)) := by
  show StableHlo.after (hostOps0) (fun b => m (c, b)) main_v13 = _
  after_results_simp
  rfl

theorem V_s : V m c main_v14 = sT (F := F) (m (c, main_arg1)) := by
  show StableHlo.after (hostOps0) (fun b => m (c, b)) main_v14 = _
  after_results_simp
  rfl

/-! ## The three arrays at an element -/

theorem sT_apply (a1 : Vec F S4096x50 .i32) (t : Fin 50) (b : Fin 4096) : sT (F := F) a1 (ix2 t b) = a1 (ix2 b t) := by
  unfold sT
  pointwise

theorem xT_apply (a0 : Vec F S4096x50x64 .f32) (r : Fin 3200) (b : Fin 4096) (t : Fin 50) (k : Fin 64) (h : (r : ℕ) = 64 * t + k) :
    xT a0 (ix2 r b) = a0 (ix3 b t k) := by
  unfold xT
  pointwise
  have ht := t.isLt
  have hk := k.isLt
  exact congrArg₂ (fun u v => a0 (ix3 b u v)) (Fin.ext (by show (r : ℕ) / 64 = t; omega)) (Fin.ext (by show (r : ℕ) % 64 = k; omega))

theorem corner_0 (a b : BitVec 32) : corner a b (ix1 0) = a := by
  unfold corner
  pointwise

theorem corner_1 (a b : BitVec 32) : corner a b (ix1 1) = b := by
  unfold corner
  pointwise

theorem block_start (j : S192x64.Idx) (idx : IVec S2 32) :
    scatter_S384x136_S2_S192x64_01_n_01_0.start j idx 0 = (idx (ix1 0)).toInt
      ∧ scatter_S384x136_S2_S192x64_01_n_01_0.start j idx 1 = (idx (ix1 1)).toInt := by
  constructor
  · refine congrArg (fun i => (idx i).toInt) (funext fun b => ?_)
    match b with | ⟨0, _⟩ => rfl
  · refine congrArg (fun i => (idx i).toInt) (funext fun b => ?_)
    match b with | ⟨0, _⟩ => rfl

theorem block_window (j : S192x64.Idx) : scatter_S384x136_S2_S192x64_01_n_01_0.window j 0 = (j 0 : ℕ)
    ∧ scatter_S384x136_S2_S192x64_01_n_01_0.window j 1 = (j 1 : ℕ) := ⟨rfl, rfl⟩

theorem col_start (j : S384.Idx) (idx : IVec S1 32) :
    scatter_S384x136_S1_S384_0_1_1_0.start j idx 0 = 0
      ∧ scatter_S384x136_S1_S384_0_1_1_0.start j idx 1 = (idx (ix1 0)).toInt := by
  constructor
  · rfl
  · refine congrArg (fun i => (idx i).toInt) (funext fun b => ?_)
    match b with | ⟨0, _⟩ => rfl

theorem col_window (j : S384.Idx) : scatter_S384x136_S1_S384_0_1_1_0.window j 0 = (j 0 : ℕ)
    ∧ scatter_S384x136_S1_S384_0_1_1_0.window j 1 = 0 := ⟨rfl, rfl⟩

/-- A block written at a corner, read inside the block and outside it. -/
theorem block_apply (x : Vec F S384x136 .f32) (a b : BitVec 32) (p q : ℕ) (ha : a.toInt = p) (hb : b.toInt = q) (upd : Vec F S192x64 .f32)
    (r : Fin 384) (k : Fin 136) :
    Host.scatter scatter_S384x136_S2_S192x64_01_n_01_0 (fun _ b => b) x (corner a b) upd (ix2 r k)
      = if h : (p ≤ r ∧ (r : ℕ) - p < 192) ∧ (q ≤ k ∧ (k : ℕ) - q < 64) then upd (ix2 ⟨(r : ℕ) - p, h.1.2⟩ ⟨(k : ℕ) - q, h.2.2⟩) else x (ix2 r k) := by
  have hit : ∀ j : S192x64.Idx, scatter_S384x136_S2_S192x64_01_n_01_0.resultIdx? j (corner a b) = some (ix2 r k)
      ↔ p + (j 0 : ℕ) = r ∧ q + (j 1 : ℕ) = k := fun j => by
    rw [Scatter.resultIdx_iff]
    have s0 := block_start j (corner a b)
    have s1 := block_window j
    rw [corner_0, corner_1, ha, hb] at s0
    constructor
    · intro h
      have h0 := h 0
      have h1 := h 1
      rw [s0.1, s1.1] at h0
      rw [s0.2, s1.2] at h1
      have e0 : (((ix2 r k : S384x136.Idx) 0 : ℕ)) = r := rfl
      have e1 : (((ix2 r k : S384x136.Idx) 1 : ℕ)) = k := rfl
      omega
    · rintro ⟨h0, h1⟩ a'
      match a' with
      | ⟨0, _⟩ => refine Eq.trans (congrArg₂ (fun (u : ℤ) (v : ℕ) => u + (v : ℤ)) s0.1 s1.1) ?_
                  show (p : ℤ) + ((j 0 : ℕ) : ℤ) = (r : ℕ); omega
      | ⟨1, _⟩ => refine Eq.trans (congrArg₂ (fun (u : ℤ) (v : ℕ) => u + (v : ℤ)) s0.2 s1.2) ?_
                  show (q : ℤ) + ((j 1 : ℕ) : ℤ) = (k : ℕ); omega
  by_cases h : (p ≤ (r : ℕ) ∧ (r : ℕ) - p < 192) ∧ (q ≤ (k : ℕ) ∧ (k : ℕ) - q < 64)
  · rw [dif_pos h]
    refine Routing.scatter_set_hit _ _ _ _ _ _ (fun j hj => ?_) (ix2 ⟨(r : ℕ) - p, h.1.2⟩ ⟨(k : ℕ) - q, h.2.2⟩) ?_
    · have hj := (hit j).1 hj
      refine congrArg upd (funext fun a' => Fin.ext ?_)
      match a' with
      | ⟨0, _⟩ => show (j 0 : ℕ) = (r : ℕ) - p; omega
      | ⟨1, _⟩ => show (j 1 : ℕ) = (k : ℕ) - q; omega
    · refine (hit _).2 ⟨?_, ?_⟩
      · show p + ((r : ℕ) - p) = r; omega
      · show q + ((k : ℕ) - q) = k; omega
  · rw [dif_neg h]
    refine Routing.scatter_set_miss _ _ _ _ _ fun j hj => h ?_
    have hj := (hit j).1 hj
    have h0 : (j 0 : ℕ) < 192 := (j 0).isLt
    have h1 : (j 1 : ℕ) < 64 := (j 1).isLt
    omega

/-- The column of biases, read on it and off it. -/
theorem col_apply (x : Vec F S384x136 .f32) (upd : Vec F S384 .f32) (r : Fin 384) (k : Fin 136) :
    Host.scatter scatter_S384x136_S1_S384_0_1_1_0 (fun _ b => b) x (broadcastInDim S1 ![] bcast_S_S1 (constantI S_ 32 128#32)) upd (ix2 r k)
      = if (k : ℕ) = 128 then upd (ix1 r) else x (ix2 r k) := by
  have hit : ∀ j : S384.Idx, scatter_S384x136_S1_S384_0_1_1_0.resultIdx? j (broadcastInDim S1 ![] bcast_S_S1 (constantI S_ 32 128#32))
      = some (ix2 r k) ↔ (j 0 : ℕ) = r ∧ 128 = (k : ℕ) := fun j => by
    rw [Scatter.resultIdx_iff]
    have s0 := col_start j (broadcastInDim S1 ![] bcast_S_S1 (constantI S_ 32 128#32))
    have s1 := col_window j
    have s2 : ((broadcastInDim S1 ![] bcast_S_S1 (constantI S_ 32 128#32) : IVec S1 32) (ix1 0)).toInt = 128 := by
      show (128#32 : BitVec 32).toInt = 128
      decide
    rw [s2] at s0
    constructor
    · intro h
      have h0 := h 0
      have h1 := h 1
      rw [s0.1, s1.1] at h0
      rw [s0.2, s1.2] at h1
      have e0 : (((ix2 r k : S384x136.Idx) 0 : ℕ)) = r := rfl
      have e1 : (((ix2 r k : S384x136.Idx) 1 : ℕ)) = k := rfl
      omega
    · rintro ⟨h0, h1⟩ a'
      match a' with
      | ⟨0, _⟩ => refine Eq.trans (congrArg₂ (fun (u : ℤ) (v : ℕ) => u + (v : ℤ)) s0.1 s1.1) ?_
                  show (0 : ℤ) + ((j 0 : ℕ) : ℤ) = (r : ℕ); omega
      | ⟨1, _⟩ => refine Eq.trans (congrArg₂ (fun (u : ℤ) (v : ℕ) => u + (v : ℤ)) s0.2 s1.2) ?_
                  show (128 : ℤ) + ((0 : ℕ) : ℤ) = (k : ℕ); omega
  by_cases h : (k : ℕ) = 128
  · rw [if_pos h]
    refine Routing.scatter_set_hit _ _ _ _ _ _ (fun j hj => ?_) (ix1 r) ((hit _).2 ⟨rfl, h.symm⟩)
    have hj := (hit j).1 hj
    refine congrArg upd (funext fun a' => Fin.ext ?_)
    match a' with
    | ⟨0, _⟩ => exact hj.1
  · rw [if_neg h]
    exact Routing.scatter_set_miss _ _ _ _ _ fun j hj => h ((hit j).1 hj).2.symm

end

/-! ## The packed weights -/

/-- The arguments' weights. -/
def wts (a2 a3 : Vec Ideal S192x64 .f32) (a4 a5 : Vec Ideal S192 .f32) : Weights where
  wi r k := if h : r < 192 ∧ k < 64 then a2 (ix2 ⟨r, h.1⟩ ⟨k, h.2⟩) else 0
  wh r k := if h : r < 192 ∧ k < 64 then a3 (ix2 ⟨r, h.1⟩ ⟨k, h.2⟩) else 0
  bi r := if h : r < 192 then a4 (ix1 ⟨r, h⟩) else 0
  bh r := if h : r < 192 then a5 (ix1 ⟨r, h⟩) else 0

theorem wts_wi (a2 a3 : Vec Ideal S192x64 .f32) (a4 a5 : Vec Ideal S192 .f32) (r : Fin 192) (k : Fin 64) :
    a2 (ix2 r k) = (wts a2 a3 a4 a5).wi r k := by
  unfold wts; dsimp only; rw [dif_pos (show (r : ℕ) < 192 ∧ (k : ℕ) < 64 from ⟨r.isLt, k.isLt⟩)]
theorem wts_wh (a2 a3 : Vec Ideal S192x64 .f32) (a4 a5 : Vec Ideal S192 .f32) (r : Fin 192) (k : Fin 64) :
    a3 (ix2 r k) = (wts a2 a3 a4 a5).wh r k := by
  unfold wts; dsimp only; rw [dif_pos (show (r : ℕ) < 192 ∧ (k : ℕ) < 64 from ⟨r.isLt, k.isLt⟩)]
theorem wts_bi (a2 a3 : Vec Ideal S192x64 .f32) (a4 a5 : Vec Ideal S192 .f32) (r : Fin 192) :
    a4 (ix1 r) = (wts a2 a3 a4 a5).bi r := by
  unfold wts; dsimp only; rw [dif_pos (show (r : ℕ) < 192 from r.isLt)]
theorem wts_bh (a2 a3 : Vec Ideal S192x64 .f32) (a4 a5 : Vec Ideal S192 .f32) (r : Fin 192) :
    a5 (ix1 r) = (wts a2 a3 a4 a5).bh r := by
  unfold wts; dsimp only; rw [dif_pos (show (r : ℕ) < 192 from r.isLt)]

theorem w0_apply (r : Fin 384) (k : Fin 136) : w0 (F := Ideal) (ix2 r k) = 0 := by
  unfold w0
  pointwise

theorem bias_apply (a4 a5 : Vec Ideal S192 .f32) (r : Fin 384) :
    bias a4 a5 (ix1 r) = if h : (r : ℕ) < 192 then a4 (ix1 ⟨r, h⟩) else a5 (ix1 ⟨(r : ℕ) - 192, by omega⟩) := by
  unfold bias
  pointwise

theorem w11_apply (a2 a3 : Vec Ideal S192x64 .f32) (a4 a5 : Vec Ideal S192 .f32) (r : Fin 384) (k : Fin 136) :
    w11 a2 a3 a4 a5 (ix2 r k) = pack (wts a2 a3 a4 a5) r k := by
  unfold w11 w8 w4
  have hr := r.isLt
  have hk := k.isLt
  rw [col_apply, block_apply _ 192#32 64#32 192 64 (by decide) (by decide), block_apply _ 0#32 0#32 0 0 (by decide) (by decide), bias_apply, w0_apply]
  unfold pack wts
  dsimp only
  by_cases h1 : (r : ℕ) < 192
  · rw [if_pos h1, dif_neg (c := (192 ≤ (r : ℕ) ∧ (r : ℕ) - 192 < 192) ∧ (64 ≤ (k : ℕ) ∧ (k : ℕ) - 64 < 64)) (fun h => by omega), dif_pos h1]
    by_cases h2 : (k : ℕ) < 64
    · rw [if_pos h2, if_neg (fun h => by omega), dif_pos ⟨⟨by omega, by omega⟩, by omega, by omega⟩, dif_pos ⟨h1, h2⟩]
      rfl
    · rw [if_neg h2, dif_neg (fun h => by omega), dif_pos h1]
  · rw [if_neg h1, dif_neg h1,
      dif_neg (c := (0 ≤ (r : ℕ) ∧ (r : ℕ) - 0 < 192) ∧ (0 ≤ (k : ℕ) ∧ (k : ℕ) - 0 < 64)) (fun h => by omega)]
    by_cases h2 : (k : ℕ) < 64
    · rw [if_pos h2, if_neg (fun h => by omega), dif_neg (fun h => by omega)]
    · rw [if_neg h2]
      by_cases h3 : (k : ℕ) < 128
      · rw [if_pos h3, if_neg (fun h => by omega), dif_pos ⟨⟨by omega, by omega⟩, by omega, by omega⟩, dif_pos ⟨by omega, by omega⟩]
      · rw [if_neg h3, dif_neg (fun h => by omega), dif_pos (show (r : ℕ) - 192 < 192 by omega)]

end Cert.KHost

end
-- ==== Proof.KernelValue.lean ====
/- What the kernel's result holds: at batch row `b`, step `t`, unit `d`, the output of the recurrence of row `b`. -/
module

public import proofs.«01_k».proof.Proof.KernelHost
public import Idealize.ShloMosaic.Lib.Pipeline.Value
public import Idealize.ShloMosaic.Lib.Pipeline.ValueKit.Tiles

@[expose] public section

set_option maxRecDepth 16384

noncomputable section

namespace Cert.KVal

open Idealize.ShloMosaic Idealize.ShloMosaic.TcCoe Idealize.SL.Sem Cert.KernelIdeal Cert.KernelIdeal.Gen Cert.KStep Cert.KHost Cert.Spec
open Idealize.ShloMosaic.Pipeline (Dat)

/-- Row `b`'s inputs and speakers, step by step. -/
def xs (a0 : Vec Ideal S4096x50x64 .f32) (b : Fin 4096) (t k : ℕ) : EReal := a0 (ix3 b (stepOf t) ⟨k % 64, Nat.mod_lt _ (by decide)⟩)
def sp (a1 : Vec Ideal S4096x50 .i32) (b : Fin 4096) (t : ℕ) : ℕ := (a1 (ix2 b (stepOf t)) : BitVec 32).toNat

theorem xs_apply (a0 : Vec Ideal S4096x50x64 .f32) (b : Fin 4096) (t : Fin 50) (k : Fin 64) : xs a0 b t k = a0 (ix3 b t k) :=
  congrArg₂ (fun u v => a0 (ix3 b u v)) (Fin.ext (Nat.mod_eq_of_lt t.isLt)) (Fin.ext (Nat.mod_eq_of_lt k.isLt))

theorem sp_apply (a1 : Vec Ideal S4096x50 .i32) (b : Fin 4096) (t : Fin 50) : BitVec.ofNat 32 (sp a1 b t) = a1 (ix2 b t) := by
  have e : stepOf (t : ℕ) = t := Fin.ext (Nat.mod_eq_of_lt t.isLt)
  unfold sp
  rw [e]
  exact BitVec.eq_of_toNat_eq (by simp)

/-- The batch row in lane `l` of grid point `t`. -/
def lane (t : Fin cfg0.N) (l : Fin 1024) : Fin 4096 := ⟨1024 * t.val + l.val, by have := t.isLt; have := l.isLt; have : cfg0.N = 4 := N_0; omega⟩

theorem index_0 : ∀ t : Fin grid0.N, win0_0.index t 0 * win0_0.size 0 = 0 ∧ win0_0.index t 1 * win0_0.size 1 = 1024 * t.val := by decide +kernel
theorem index_1 : ∀ t : Fin grid0.N, win0_1.index t 0 * win0_1.size 0 = 0 ∧ win0_1.index t 1 * win0_1.size 1 = 1024 * t.val := by decide +kernel
theorem index_2 : ∀ t : Fin grid0.N, win0_2.index t 0 * win0_2.size 0 = 0 ∧ win0_2.index t 1 * win0_2.size 1 = 0 := by decide +kernel
theorem index_3 : ∀ t : Fin grid0.N, win0_3.index t 0 * win0_3.size 0 = 0 ∧ win0_3.index t 1 * win0_3.size 1 = 1024 * t.val := by decide +kernel

section
variable {F : FTy → Type} [FloatOps F]

theorem blk_0 (t : Fin cfg0.N) (A : Vec F S3200x4096 .f32) (r : Fin 3200) (l : Fin 1024) :
    (win0_0.blk t).view.read (Elt F) A (ix2 r l) = A (ix2 r (lane t l)) := by
  show A ((win0_0.rect t).idx (ix2 r l)) = _
  refine congrArg A (funext fun a => Fin.ext ?_)
  refine (Rect.idx_unit_val (s := S3200x4096) _ _ _ _ _).trans ?_
  match a with
  | ⟨0, _⟩ => show win0_0.index t 0 * win0_0.size 0 + r.val = r.val; rw [(index_0 t).1, Nat.zero_add]
  | ⟨1, _⟩ => show win0_0.index t 1 * win0_0.size 1 + l.val = 1024 * t.val + l.val; rw [(index_0 t).2]

theorem blk_1 (t : Fin cfg0.N) (A : Vec F S50x4096 .i32) (r : Fin 50) (l : Fin 1024) :
    (win0_1.blk t).view.read (Elt F) A (ix2 r l) = A (ix2 r (lane t l)) := by
  show A ((win0_1.rect t).idx (ix2 r l)) = _
  refine congrArg A (funext fun a => Fin.ext ?_)
  refine (Rect.idx_unit_val (s := S50x4096) _ _ _ _ _).trans ?_
  match a with
  | ⟨0, _⟩ => show win0_1.index t 0 * win0_1.size 0 + r.val = r.val; rw [(index_1 t).1, Nat.zero_add]
  | ⟨1, _⟩ => show win0_1.index t 1 * win0_1.size 1 + l.val = 1024 * t.val + l.val; rw [(index_1 t).2]

theorem blk_2 (t : Fin cfg0.N) (A : Vec F S384x136 .f32) (r : Fin 384) (k : Fin 136) :
    (win0_2.blk t).view.read (Elt F) A (ix2 r k) = A (ix2 r k) := by
  show A ((win0_2.rect t).idx (ix2 r k)) = _
  refine congrArg A (funext fun a => Fin.ext ?_)
  refine (Rect.idx_unit_val (s := S384x136) _ _ _ _ _).trans ?_
  match a with
  | ⟨0, _⟩ => show win0_2.index t 0 * win0_2.size 0 + r.val = r.val; rw [(index_2 t).1, Nat.zero_add]
  | ⟨1, _⟩ => show win0_2.index t 1 * win0_2.size 1 + k.val = k.val; rw [(index_2 t).2, Nat.zero_add]

theorem blk_3 (t : Fin cfg0.N) (A : Vec F S3200x4096 .f32) (r : Fin 3200) (l : Fin 1024) :
    (win0_3.blk t).view.read (Elt F) A (ix2 r l) = A (ix2 r (lane t l)) := by
  show A ((win0_3.rect t).idx (ix2 r l)) = _
  refine congrArg A (funext fun a => Fin.ext ?_)
  refine (Rect.idx_unit_val (s := S3200x4096) _ _ _ _ _).trans ?_
  match a with
  | ⟨0, _⟩ => show win0_3.index t 0 * win0_3.size 0 + r.val = r.val; rw [(index_3 t).1, Nat.zero_add]
  | ⟨1, _⟩ => show win0_3.index t 1 * win0_3.size 1 + l.val = 1024 * t.val + l.val; rw [(index_3 t).2]

/-- An index of the output array is in point `t`'s block: its column is in the block's range. -/
theorem mem_blk (t : Fin cfg0.N) (i : S3200x4096.Idx) :
    i ∈ ((cfg0.win 3).blk t).view.set ↔ 1024 * t.val ≤ (i 1 : Nat) ∧ (i 1 : Nat) < 1024 * t.val + 1024 := by
  show i ∈ ((View.whole main_v15).slice (win0_3.rect t)).set ↔ _
  rw [View.set_slice_whole, Rect.mem_set_unit]
  have h0 : (i 0 : Nat) < 3200 := (i 0).isLt
  have e := index_3 t
  refine ⟨fun h => ?_, fun h a => ?_⟩
  · have : win0_3.index t 1 * win0_3.size 1 ≤ (i 1 : Nat) ∧ (i 1 : Nat) < win0_3.index t 1 * win0_3.size 1 + 1024 := h 1
    rw [e.2] at this; exact this
  · match a with
    | ⟨0, _⟩ => show win0_3.index t 0 * win0_3.size 0 ≤ (i 0 : Nat) ∧ (i 0 : Nat) < win0_3.index t 0 * win0_3.size 0 + 3200
                rw [e.1]; omega
    | ⟨1, _⟩ => show win0_3.index t 1 * win0_3.size 1 ≤ (i 1 : Nat) ∧ (i 1 : Nat) < win0_3.index t 1 * win0_3.size 1 + 1024
                rw [e.2]; exact h

/-- The blocks tile the output array. -/
theorem cover (i : S3200x4096.Idx) : ∃ t : Fin cfg0.N, (cfg0.win 3).flush t = true ∧ i ∈ ((cfg0.win 3).blk t).view.set := by
  have h1 : (i 1 : Nat) < 4096 := (i 1).isLt
  have hN : cfg0.N = 4 := N_0
  refine ⟨⟨(i 1 : Nat) / 1024, by omega⟩, flush0_3 _, ?_⟩
  rw [mem_blk]
  dsimp only
  omega

end

variable (m : (ℓ : Loc nD τ sig) → Buf (Elt Ideal) ℓ) (c : Dev nD)

/-- The arguments of the claim. -/
abbrev arg0 : Vec Ideal S4096x50x64 .f32 := m (c, main_arg0)
abbrev arg1 : Vec Ideal S4096x50 .i32 := m (c, main_arg1)
abbrev W : Weights := wts (m (c, main_arg2)) (m (c, main_arg3)) (m (c, main_arg4)) (m (c, main_arg5))

/-- The recurrence's outputs, laid out as the output array is: rows by step and unit, the batch along the columns. -/
def G : Vec Ideal S3200x4096 .f32 := fun i =>
  out (W m c) (xs (arg0 m c) (i 1)) (sp (arg1 m c) (i 1)) ((i 0 : ℕ) / 64) ((i 0 : ℕ) % 64)

theorem G_apply (t : ℕ) (ht : t < 50) (d : Fin 64) (b : Fin 4096) :
    G m c (ix2 (rowOf t d) b) = out (W m c) (xs (arg0 m c) b) (sp (arg1 m c) b) t d := by
  have hd := d.isLt
  have e0 : (((ix2 (rowOf t d) b : S3200x4096.Idx) 0 : ℕ)) = 64 * (t % 50) + d := rfl
  unfold G
  refine congrArg₂ (out (W m c) (xs (arg0 m c) b) (sp (arg1 m c) b)) ?_ ?_
  · rw [e0]; omega
  · rw [e0]; omega

theorem row_eq (r : Fin 3200) : r = rowOf ((r : ℕ) / 64) ⟨(r : ℕ) % 64, Nat.mod_lt _ (by decide)⟩ := by
  refine Fin.ext ?_
  have := r.isLt
  show (r : ℕ) = 64 * ((r : ℕ) / 64 % 50) + (r : ℕ) % 64
  omega

/-- The result: the output array with the batch first again. -/
def res : Vec Ideal S4096x50x64 .f32 :=
  shapeCast S4096x50x64 (transpose S4096x3200 [1, 0] (G m c) transposes_S3200x4096_S4096x3200_1_0) shapeCasts_S4096x3200_S4096x50x64

theorem res_apply (b : Fin 4096) (t : Fin 50) (d : Fin 64) :
    res m c (ix3 b t d) = out (W m c) (xs (arg0 m c) b) (sp (arg1 m c) b) t d := by
  refine Eq.trans ?_ (G_apply m c t t.isLt d b)
  unfold res
  pointwise
  have ht := t.isLt
  refine congrArg (fun r => G m c (ix2 r b)) (Fin.ext ?_)
  show (t : ℕ) * 64 + d = 64 * (t % 50) + d
  rw [Nat.mod_eq_of_lt ht, Nat.mul_comm]

variable (hS : ∀ b t, sp (arg1 m c) b t < 10)
include hS

theorem outsAt_apply (t : Fin cfg0.N) (r : Fin 3200) (l : Fin 1024) : outsAt0 m c t (ix2 r l) = G m c (ix2 r (lane t l)) := by
  rw [row_eq r]
  have hr := r.isLt
  rw [G_apply m c _ (by omega)]
  unfold outsAt0
  refine block_value _ _ _ _ _ _ _ _ _ _ _ _ _ c _ (W m c) ?_ l (xs (arg0 m c) (lane t l)) (sp (arg1 m c) (lane t l)) ?_ ?_ (hS _) _ (by omega) _
  · intro r k
    refine (blk_2 t (V m c main_v11) r k).trans ?_
    rw [V_w, w11_apply]
  · intro s k
    refine (blk_0 t (V m c main_v13) _ l).trans ?_
    rw [V_x]
    refine (xT_apply (arg0 m c) (rowOf s k) (lane t l) (stepOf s) k rfl).trans ?_
    exact congrArg (fun u => arg0 m c (ix3 (lane t l) (stepOf s) u)) (Fin.ext (Nat.mod_eq_of_lt k.isLt).symm)
  · intro s
    refine (blk_1 t (V m c main_v14) _ l).trans ?_
    rw [V_s, sT_apply]
    exact BitVec.eq_of_toNat_eq (by simp [sp])

theorem flushed_eq (t : Fin cfg0.N) : (dats m 0 c).flushed 3 t = (win0_3.blk t).view.read (Elt Ideal) (G m c) := by
  show (cfg0.win 3).cut (grid0.coords t) ((dats m 0 c).after 3 t) = _
  rw [after0_3]
  funext y
  obtain ⟨r, l, rfl⟩ : ∃ (r : Fin 3200) (l : Fin 1024), y = ix2 r l := ⟨y 0, y 1, funext fun a => by match a with | ⟨0, _⟩ => rfl | ⟨1, _⟩ => rfl⟩
  exact (outsAt_apply m c hS t r l).trans (blk_3 t (G m c) r l).symm

theorem final : (dats m 0 c).arrAt 3 cfg0.N = G m c :=
  (dats m 0 c).arrAt_eq_of_cover 3 (G m c) (fun t _ => flushed_eq m c hS t) cover

theorem tail : Pipeline.afterTail₀ cfgs (dats m) 0 (V0 m) [hostOps1] c main_v17 = res m c := by
  have e : Pipeline.withArrays (cfgs 0).spec c (V0 m c) (fun w => (dats m 0 c).arrAt w (cfgs 0).N) (Proc.devRef .tc main_v15) = G m c :=
    (Pipeline.withArrays_arr spec0 winFacts0.arr_inj c _ _ 3).trans (final m c hS)
  show StableHlo.after hostOps1 _ main_v17 = _
  after_results_simp
  rw [e]
  rfl

omit hS in
/-- The run: the result at `res`, the arguments unchanged. -/
theorem run (ρ : Dev nD → PrngReg) (hS : ∀ c b t, sp (arg1 m c) b t < 10) :
    θ_run defs (onTc (τ := τ) (main (F := Ideal))) ⟨m, fun _ => 0, ρ⟩ (fun r => ∀ c : Dev nD,
      r.2.mem ((c.tc : Thread nD τ).loc main_v17) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    exact ⟨((h c).2 main_v17 (Pipeline.mem_restRefs_of main_v17 (by decide) (by decide))).trans (tail m c (hS c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KVal

end
-- ==== Proof.RefValue.lean ====
/- What the reference computes: after `j` trips its slots and its outputs are those of the recurrence, row by row. -/
module

public import proofs.«01_k».proof.Proof.RefStep
public import proofs.«01_k».proof.Proof.Spec
public import proofs.«01_k».proof.Proof.Scatter
public import Idealize.ShloMosaic.Lib.Pointwise
public import Idealize.ShloMosaic.Lib.IdealHost

@[expose] public section

set_option maxRecDepth 16384

noncomputable section

namespace Cert.RefValue

open Idealize.ShloMosaic Cert.ReferenceIdeal Cert.ReferenceIdeal.Gen Cert.RefStep Cert.Spec

/-! ## Words -/

theorem toInt_small (n : ℕ) (hn : n < 4096) : (BitVec.ofNat 32 n).toInt = n :=
  StableHlo.Predicate.toInt_ofNat_small n (by omega)

/-- A negative index counts from the end; one that is not negative stands. -/
theorem wrap_small (n : ℕ) (hn : n < 4096) (x : BitVec 32) :
    Scalar.select (IntOp.cmpi .slt (BitVec.ofNat 32 n) 0#32) x (BitVec.ofNat 32 n) = BitVec.ofNat 32 n := by
  have h : IntOp.cmpi .slt (BitVec.ofNat 32 n) 0#32 = 0#1 := by
    have e : (BitVec.ofNat 32 n).slt 0#32 = false := by
      rw [BitVec.slt, toInt_small n hn]; simp
    simp [IntOp.cmpi, e]
  rw [h]; rfl

variable (j : ℕ) (s : State Ideal)

/-! ## The trip's slices and indices -/

omit s in
theorem clamp_row (hj : j < 50) : (min (max (BitVec.ofNat 32 j).toInt 0) ((50 - 1 : ℕ) : ℤ)).toNat = j := by
  rw [toInt_small j (by omega)]; omega

theorem b3_apply (b : Fin 4096) (k : Fin 64) (hj : j < 50) : b3 j s (ix2 b k) = s.main_v6_0 (ix3 ⟨j, hj⟩ b k) := by
  unfold b3 b2 b0 b1
  pointwise
  refine congrArg s.main_v6_0 (funext fun a => Fin.ext ?_)
  match a with
  | ⟨0, _⟩ => exact clamp_row j hj
  | ⟨1, _⟩ => exact Nat.zero_add _
  | ⟨2, _⟩ => exact Nat.zero_add _

theorem b6_apply (b : Fin 4096) (hj : j < 50) : b6 j s (ix1 b) = s.main_v6_1 (ix2 ⟨j, hj⟩ b) := by
  unfold b6 b5 b4
  pointwise
  refine congrArg s.main_v6_1 (funext fun a => Fin.ext ?_)
  match a with
  | ⟨0, _⟩ => exact clamp_row j hj
  | ⟨1, _⟩ => exact Nat.zero_add _

theorem b23_0 (b : Fin 4096) : b23 j s (ix2 b 0) = BitVec.ofNat 32 b := by
  unfold b23 b21 b13 b12 b11 b10 b9 b8 b7 K_main_v2
  pointwise
  exact wrap_small _ b.isLt _

theorem b23_1 (b : Fin 4096) (n : ℕ) (hn : n < 10) (h : b6 j s (ix1 b) = BitVec.ofNat 32 n) : b23 j s (ix2 b 1) = BitVec.ofNat 32 n := by
  unfold b23 b22 b20 b19 b18 b17 b16 b15 b14
  pointwise
  rw [h]
  exact wrap_small _ (by omega) _

/-- The trip computes the indices it writes at as it does those it reads at. -/
theorem b84_eq : b84 j s = b23 j s := by
  unfold b84 b83 b82 b81 b80 b79 b78 b77 b76 b75 b74 b73 b72 b71 b70 b69 b68 b23 b22 b21 b20 b19 b18 b17 b16 b15 b14 b13 b12 b11 b10 b9 b8 b7
  rfl

/-! ## The cell -/

theorem b29_apply (b : Fin 4096) (r : Fin 192) :
    b29 j s (ix2 b r) = (∑ k : Fin 64, b3 j s (ix2 b k) * s.main_v6_3 (ix2 r k)) + s.main_v6_4 (ix1 r) := by
  unfold b29 b28 b27 b26 b25
  pointwise

theorem b34_apply (b : Fin 4096) (r : Fin 192) :
    b34 j s (ix2 b r) = (∑ k : Fin 64, b24 j s (ix2 b k) * s.main_v6_5 (ix2 r k)) + s.main_v6_6 (ix1 r) := by
  unfold b34 b33 b32 b31 b30
  pointwise

theorem b49_apply (b : Fin 4096) (d : Fin 64) :
    b49 j s (ix2 b d) = Ideal.logistic (b29 j s (ix2 b ⟨d, by omega⟩) + b34 j s (ix2 b ⟨d, by omega⟩)) := by
  unfold b49 b48 b47 b46 b45 b44 b43 b42 b41 b38 b35
  pointwise
  rfl

theorem b58_apply (b : Fin 4096) (d : Fin 64) :
    b58 j s (ix2 b d) = Ideal.logistic (b29 j s (ix2 b ⟨64 + d, by omega⟩) + b34 j s (ix2 b ⟨64 + d, by omega⟩)) := by
  unfold b58 b57 b56 b55 b54 b53 b52 b51 b50 b39 b36
  pointwise
  rfl

theorem b67_apply (b : Fin 4096) (d : Fin 64) :
    b67 j s (ix2 b d) = (1 - b58 j s (ix2 b d))
        * Ideal.tanh (b29 j s (ix2 b ⟨128 + d, by omega⟩) + b49 j s (ix2 b d) * b34 j s (ix2 b ⟨128 + d, by omega⟩))
      + b58 j s (ix2 b d) * b24 j s (ix2 b d) := by
  unfold b67 b66 b65 b64 b63 b62 b61 b60 b59 b40 b37
  pointwise

/-- The new state of row `b`, of its input and its previous state. -/
theorem b67_cell (W : Weights) (hwi : ∀ (r : Fin 192) (k : Fin 64), s.main_v6_3 (ix2 r k) = W.wi r k) (hbi : ∀ r : Fin 192, s.main_v6_4 (ix1 r) = W.bi r)
    (hwh : ∀ (r : Fin 192) (k : Fin 64), s.main_v6_5 (ix2 r k) = W.wh r k) (hbh : ∀ r : Fin 192, s.main_v6_6 (ix1 r) = W.bh r)
    (b : Fin 4096) (x h : ℕ → EReal) (hx : ∀ k : Fin 64, b3 j s (ix2 b k) = x k) (hh : ∀ k : Fin 64, b24 j s (ix2 b k) = h k) (d : Fin 64) :
    b67 j s (ix2 b d) = cell W x h d := by
  have ei (r : Fin 192) : b29 j s (ix2 b r) = gi W x r := by
    rw [b29_apply, hbi]
    exact congrArg (· + W.bi r) (Finset.sum_congr rfl fun k _ => by rw [hx, hwi])
  have eh (r : Fin 192) : b34 j s (ix2 b r) = gh W h r := by
    rw [b34_apply, hbh]
    exact congrArg (· + W.bh r) (Finset.sum_congr rfl fun k _ => by rw [hh, hwh])
  rw [b67_apply, b58_apply, b49_apply, hh, ei, eh, ei, eh, ei, eh]
  rfl

/-! ## The read and the write of the slots -/

abbrev gd := gather_S4096x10x64_S4096x2_S4096x64_1_01_n_n_01_1_1164
abbrev sd := scatter_S4096x10x64_S4096x2_S4096x64_1_01_01_1

theorem gather_apply (x : Vec Ideal S4096x10x64 .f32) (idx : IVec S4096x2 32) (b : Fin 4096) (n : Fin 10)
    (h0 : idx (ix2 b 0) = BitVec.ofNat 32 b) (h1 : idx (ix2 b 1) = BitVec.ofNat 32 n) (d : Fin 64) :
    Host.gather gd x idx (ix2 b d) = x (ix3 b n d) := by
  have hb := b.isLt
  have hn := n.isLt
  have s0 : gd.start (ix2 b d) idx 0 = min (idx (ix2 b 0)).toInt.toNat (4096 - 1) := by
    refine congrArg (fun i => min (idx i).toInt.toNat (4096 - 1)) (funext fun a => ?_)
    match a with | ⟨0, _⟩ => rfl | ⟨1, _⟩ => rfl
  have s1 : gd.start (ix2 b d) idx 1 = min (idx (ix2 b 1)).toInt.toNat (10 - 1) := by
    refine congrArg (fun i => min (idx i).toInt.toNat (10 - 1)) (funext fun a => ?_)
    match a with | ⟨0, _⟩ => rfl | ⟨1, _⟩ => rfl
  rw [h0, toInt_small _ hb] at s0
  rw [h1, toInt_small _ (by omega)] at s1
  unfold Host.gather
  refine congrArg x (funext fun a => Fin.ext ?_)
  match a with
  | ⟨0, _⟩ => show gd.start (ix2 b d) idx 0 + 0 + 0 = (b : ℕ)
              rw [s0]; omega
  | ⟨1, _⟩ => show gd.start (ix2 b d) idx 1 + 0 + 0 = (n : ℕ)
              rw [s1]; omega
  | ⟨2, _⟩ => show 0 + 0 + (d : ℕ) = d
              omega

theorem sd_start (k : S4096x64.Idx) (idx : IVec S4096x2 32) :
    sd.start k idx 0 = (idx (ix2 (k 0) 0)).toInt ∧ sd.start k idx 1 = (idx (ix2 (k 0) 1)).toInt ∧ sd.start k idx 2 = 0 := by
  refine ⟨?_, ?_, rfl⟩
  · refine congrArg (fun i => (idx i).toInt) (funext fun a => ?_)
    match a with | ⟨0, _⟩ => rfl | ⟨1, _⟩ => rfl
  · refine congrArg (fun i => (idx i).toInt) (funext fun a => ?_)
    match a with | ⟨0, _⟩ => rfl | ⟨1, _⟩ => rfl

theorem sd_window (k : S4096x64.Idx) : sd.window k 0 = 0 ∧ sd.window k 1 = 0 ∧ sd.window k 2 = (k 1 : ℕ) := ⟨rfl, rfl, rfl⟩

theorem scatter_apply (x : Vec Ideal S4096x10x64 .f32) (idx : IVec S4096x2 32) (upd : Vec Ideal S4096x64 .f32) (S : Fin 4096 → Fin 10)
    (h0 : ∀ b : Fin 4096, idx (ix2 b 0) = BitVec.ofNat 32 b) (h1 : ∀ b, idx (ix2 b 1) = BitVec.ofNat 32 (S b))
    (b : Fin 4096) (n : Fin 10) (d : Fin 64) :
    Host.scatter sd (fun _ b => b) x idx upd (ix3 b n d) = if n = S b then upd (ix2 b d) else x (ix3 b n d) := by
  have hit : ∀ k : S4096x64.Idx, sd.resultIdx? k idx = some (ix3 b n d) ↔ k 0 = b ∧ S (k 0) = n ∧ k 1 = d := fun k => by
    rw [Scatter.resultIdx_iff]
    have s0 := sd_start k idx
    have s1 := sd_window k
    have hk := (S (k 0)).isLt
    have e0 : (idx (ix2 (k 0) 0)).toInt = ((k 0 : Fin 4096) : ℕ) := (congrArg BitVec.toInt (h0 (k 0))).trans (toInt_small _ (k 0).isLt)
    have e1 : (idx (ix2 (k 0) 1)).toInt = (S (k 0) : ℕ) := (congrArg BitVec.toInt (h1 (k 0))).trans (toInt_small _ (by omega))
    rw [e0, e1] at s0
    constructor
    · intro h
      have a0 := h 0
      have a1 := h 1
      have a2 := h 2
      rw [s0.1, s1.1] at a0
      rw [s0.2.1, s1.2.1] at a1
      rw [s0.2.2, s1.2.2] at a2
      have c0 : (((ix3 b n d : S4096x10x64.Idx) 0 : ℕ)) = b := rfl
      have c1 : (((ix3 b n d : S4096x10x64.Idx) 1 : ℕ)) = n := rfl
      have c2 : (((ix3 b n d : S4096x10x64.Idx) 2 : ℕ)) = d := rfl
      exact ⟨Fin.ext (by omega), Fin.ext (by omega), Fin.ext (by omega)⟩
    · rintro ⟨g0, g1, g2⟩ a
      match a with
      | ⟨0, _⟩ => refine Eq.trans (congrArg₂ (fun (u : ℤ) (v : ℕ) => u + (v : ℤ)) s0.1 s1.1) ?_
                  rw [g0]; exact add_zero _
      | ⟨1, _⟩ => refine Eq.trans (congrArg₂ (fun (u : ℤ) (v : ℕ) => u + (v : ℤ)) s0.2.1 s1.2.1) ?_
                  rw [g1]; exact add_zero _
      | ⟨2, _⟩ => refine Eq.trans (congrArg₂ (fun (u : ℤ) (v : ℕ) => u + (v : ℤ)) s0.2.2 s1.2.2) ?_
                  rw [g2]; exact zero_add _
  by_cases h : n = S b
  · rw [if_pos h]
    refine Routing.scatter_set_hit _ _ _ _ _ _ (fun k hk => ?_) (ix2 b d) ((hit _).2 ⟨rfl, h.symm, rfl⟩)
    obtain ⟨g0, -, g2⟩ := (hit k).1 hk
    refine congrArg upd (funext fun a => ?_)
    match a with
    | ⟨0, _⟩ => exact g0
    | ⟨1, _⟩ => exact g2
  · rw [if_neg h]
    refine Routing.scatter_set_miss _ _ _ _ _ fun k hk => h ?_
    obtain ⟨g0, g1, -⟩ := (hit k).1 hk
    rw [← g0, g1]

/-- The outputs after the trip: row `j` is the new state, the others as before. -/
theorem b89_apply (hj : j < 50) (t : Fin 50) (b : Fin 4096) (d : Fin 64) :
    b89 j s (ix3 t b d) = if (t : ℕ) = j then b67 j s (ix2 b d) else s.main_v6_9 (ix3 t b d) := by
  have h86 : b86 j s (ix3 0 b d) = b67 j s (ix2 b d) := by
    unfold b86
    pointwise
  rw [← h86]
  unfold b89 b87 b88
  pointwise
  have c0 : Host.clampedStart S50x4096x64 S1x4096x64 rfl
      (fun k => ((![constantI S_ 32 (BitVec.ofNat 32 j), constantI S_ 32 0#32, constantI S_ 32 0#32] : Fin 3 → IVec S_ 32) k (Shape.Idx.first h_S_)).toInt) 0 = j :=
    clamp_row j hj
  have c1 : Host.clampedStart S50x4096x64 S1x4096x64 rfl
      (fun k => ((![constantI S_ 32 (BitVec.ofNat 32 j), constantI S_ 32 0#32, constantI S_ 32 0#32] : Fin 3 → IVec S_ 32) k (Shape.Idx.first h_S_)).toInt) 1 = 0 :=
    rfl
  have c2 : Host.clampedStart S50x4096x64 S1x4096x64 rfl
      (fun k => ((![constantI S_ 32 (BitVec.ofNat 32 j), constantI S_ 32 0#32, constantI S_ 32 0#32] : Fin 3 → IVec S_ 32) k (Shape.Idx.first h_S_)).toInt) 2 = 0 :=
    rfl
  by_cases e : (t : ℕ) = j
  · rw [if_pos e, dif_pos (by rw [c0, c1, c2]; omega)]
    refine congrArg (b86 j s) (funext fun a => Fin.ext ?_)
    match a with
    | ⟨0, _⟩ => exact (congrArg ((t : ℕ) - ·) c0).trans (by show (t : ℕ) - j = 0; omega)
    | ⟨1, _⟩ => exact (congrArg ((b : ℕ) - ·) c1).trans (Nat.sub_zero _)
    | ⟨2, _⟩ => exact (congrArg ((d : ℕ) - ·) c2).trans (Nat.sub_zero _)
  · rw [if_neg e, dif_neg (by rw [c0, c1, c2]; omega)]

/-! ## The trips -/

/-- The state before trip `j`, of the rows' inputs and speakers. -/
structure Holds (W : Weights) (X : Fin 4096 → ℕ → ℕ → EReal) (S : Fin 4096 → ℕ → ℕ) (j : ℕ) (s : State Ideal) : Prop where
  x : ∀ (t : Fin 50) (b : Fin 4096) (k : Fin 64), s.main_v6_0 (ix3 t b k) = X b t k
  sp : ∀ (t : Fin 50) (b : Fin 4096), s.main_v6_1 (ix2 t b) = BitVec.ofNat 32 (S b t)
  wi : ∀ (r : Fin 192) (k : Fin 64), s.main_v6_3 (ix2 r k) = W.wi r k
  bi : ∀ r : Fin 192, s.main_v6_4 (ix1 r) = W.bi r
  wh : ∀ (r : Fin 192) (k : Fin 64), s.main_v6_5 (ix2 r k) = W.wh r k
  bh : ∀ r : Fin 192, s.main_v6_6 (ix1 r) = W.bh r
  bank : ∀ (b : Fin 4096) (n : Fin 10) (d : Fin 64), s.main_v6_8 (ix3 b n d) = bank W (X b) (S b) j n d
  ys : ∀ (t : Fin 50) (b : Fin 4096) (d : Fin 64), (t : ℕ) < j → s.main_v6_9 (ix3 t b d) = out W (X b) (S b) t d

variable {j s}

theorem Holds.new {W : Weights} {X : Fin 4096 → ℕ → ℕ → EReal} {S : Fin 4096 → ℕ → ℕ} (hS : ∀ b t, S b t < 10) (h : Holds W X S j s) (hj : j < 50)
    (b : Fin 4096) (d : Fin 64) : b67 j s (ix2 b d) = out W (X b) (S b) j d := by
  refine b67_cell j s W h.wi h.bi h.wh h.bh b (X b j) (Spec.bank W (X b) (S b) j (S b j)) (fun k => ?_) (fun k => ?_) d
  · rw [b3_apply j s b k hj]; exact h.x _ b k
  · have e := b23_1 j s b (S b j) (hS b j) ((b6_apply j s b hj).trans (h.sp _ b))
    unfold b24
    rw [gather_apply _ _ b ⟨S b j, hS b j⟩ (b23_0 j s b) e k]
    exact h.bank b _ k

theorem Holds.next {W : Weights} {X : Fin 4096 → ℕ → ℕ → EReal} {S : Fin 4096 → ℕ → ℕ} (hS : ∀ b t, S b t < 10) (h : Holds W X S j s) (hj : j < 50) :
    Holds W X S (j + 1) (step j s) where
  x := by rw [step_main_v6_0]; exact h.x
  sp := by rw [step_main_v6_1]; exact h.sp
  wi := by rw [step_main_v6_3]; exact h.wi
  bi := by rw [step_main_v6_4]; exact h.bi
  wh := by rw [step_main_v6_5]; exact h.wh
  bh := by rw [step_main_v6_6]; exact h.bh
  bank b n d := by
    rw [step_main_v6_8]
    unfold b85
    rw [b84_eq, scatter_apply _ _ _ (fun b => ⟨S b j, hS b j⟩) (b23_0 j s)
      (fun b => b23_1 j s b (S b j) (hS b j) ((b6_apply j s b hj).trans (h.sp _ b))) b n d, h.new hS hj, h.bank, bank_succ]
    exact if_congr Fin.ext_iff rfl rfl
  ys t b d ht := by
    rw [step_main_v6_9, b89_apply j s hj, h.new hS hj]
    by_cases e : (t : ℕ) = j
    · rw [if_pos e, e]
    · rw [if_neg e]; exact h.ys t b d (by omega)

theorem iterate_holds {W : Weights} {X : Fin 4096 → ℕ → ℕ → EReal} {S : Fin 4096 → ℕ → ℕ} (hS : ∀ b t, S b t < 10) (it : ℕ → State Ideal)
    (h0 : Holds W X S 0 (it 0)) (hs : ∀ n, it (n + 1) = step n (it n)) : ∀ k ≤ 50, Holds W X S k (it k)
  | 0, _ => h0
  | k + 1, hk => by
    rw [hs k]
    exact (iterate_holds hS it h0 hs k (by omega)).next hS (by omega)

/-- The result of the last state. -/
theorem result_apply {W : Weights} {X : Fin 4096 → ℕ → ℕ → EReal} {S : Fin 4096 → ℕ → ℕ} (h : Holds W X S 50 s) (b : Fin 4096) (t : Fin 50) (d : Fin 64) :
    R_main_v7 s (ix3 b t d) = out W (X b) (S b) t d := by
  unfold R_main_v7
  pointwise
  exact h.ys t b d t.isLt

/-- Clipping a speaker that is in range changes nothing. -/
theorem clip_small (n : ℕ) (hn : n < 10) : IntOp.minsi 9#32 (IntOp.maxsi 0#32 (BitVec.ofNat 32 n)) = BitVec.ofNat 32 n := by
  interval_cases n <;> decide

/-- The state the first trip starts from. -/
theorem init_holds (a0 : Vec Ideal S4096x50x64 .f32) (a1 : Vec Ideal S4096x50 .i32) (a2 a3 : Vec Ideal S192x64 .f32) (a4 a5 : Vec Ideal S192 .f32)
    (W : Weights) (X : Fin 4096 → ℕ → ℕ → EReal) (S : Fin 4096 → ℕ → ℕ) (hS : ∀ b t, S b t < 10)
    (hx : ∀ (b : Fin 4096) (t : Fin 50) (k : Fin 64), a0 (ix3 b t k) = X b t k) (hsp : ∀ (b : Fin 4096) (t : Fin 50), a1 (ix2 b t) = BitVec.ofNat 32 (S b t))
    (hwi : ∀ (r : Fin 192) (k : Fin 64), a2 (ix2 r k) = W.wi r k) (hwh : ∀ (r : Fin 192) (k : Fin 64), a3 (ix2 r k) = W.wh r k)
    (hbi : ∀ r : Fin 192, a4 (ix1 r) = W.bi r) (hbh : ∀ r : Fin 192, a5 (ix1 r) = W.bh r) :
    Holds W X S 0 (init a2 a4 a3 a5 a0 a1) where
  x t b k := by
    show A_main_v3 a0 a1 (ix3 t b k) = _
    unfold A_main_v3
    pointwise
    exact hx b t k
  sp t b := by
    show A_main_v4 a0 a1 (ix2 t b) = _
    unfold A_main_v4 A_main_v0 A_main_call0_v2 K_main_call0_v1 K_main_call0_v0 K_main_c K_main_call0_v4 K_main_call0_v3 K_main_c_0
    pointwise
    rw [hsp]
    exact clip_small _ (hS b t)
  wi := hwi
  bi := hbi
  wh := hwh
  bh := hbh
  bank b n d := by
    show K_main_v1 (ix3 b n d) = 0
    unfold K_main_v1 K_main_cst
    pointwise
  ys t b d ht := absurd ht (Nat.not_lt_zero _)

end Cert.RefValue

end
-- ==== Proof.InRange.lean ====
/- The precondition read at an element: every speaker is one of the ten. -/
module

public import proofs.«01_k».proof.Pre_in_range
public import Idealize.ShloMosaic.Lib.ReduceAll
public import Idealize.ShloMosaic.Lib.StableHlo.Predicate

@[expose] public section

namespace Cert.InRange

open Idealize.ShloMosaic Cert.Pre_in_range

/-- The precondition's shape relations. -/
instance facts : Cert.Pre_in_range.Facts := ⟨by decide, by decide, by decide⟩

theorem word_lt (x : BitVec 32) (h : IntOp.andi (IntOp.cmpi .sge x 0#32) (IntOp.cmpi .slt x 10#32) = 1#1) : x.toNat < 10 := by
  have e : (0#32 : BitVec 32).sle x = true ∧ x.slt 10#32 = true := by
    cases h1 : (0#32 : BitVec 32).sle x <;> cases h2 : x.slt 10#32 <;> simp_all [IntOp.cmpi, IntOp.andi]
  obtain ⟨e1, e2⟩ := e
  simp only [BitVec.sle, BitVec.slt, decide_eq_true_eq] at e1 e2
  have z : (0#32 : BitVec 32).toInt = 0 := by decide
  have t : (10#32 : BitVec 32).toInt = 10 := by decide
  rw [z] at e1
  rw [t] at e2
  have hx := BitVec.toInt_eq_toNat_cond x
  have := x.isLt
  split at hx <;> omega

theorem speaker_lt {F : FTy → Type} [FloatOps F] (a0 : FVec F S4096x50x64 .f32) (a1 : IVec S4096x50 32) (a2 a3 : FVec F S192x64 .f32) (a4 a5 : FVec F S192 .f32)
    (h : Cert.Pre_in_range.fn a0 a1 a2 a3 a4 a5 = fun _ => 1#1) (i : S4096x50.Idx) : (a1 i).toNat < 10 := by
  haveI : Subsingleton S_.Idx := ⟨fun a b => funext fun k => k.elim0⟩
  unfold Cert.Pre_in_range.fn at h
  have hi := Host.reduce_andi_all _ _ _ _ _ (congrFun h (Shape.Idx.first (by decide : 0 < S_.numel))) i
  exact word_lt _ hi

end Cert.InRange
-- ==== Proof.lean ====
/- The proof of the certificate's claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefStepRun
public import proofs.«01_k».proof.Proof.KernelValue
public import proofs.«01_k».proof.Proof.RefValue
public import proofs.«01_k».proof.Proof.InRange
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference leaves its arguments unchanged and every counter at zero: its run, and it has no semaphore. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
        ∧ r.2.sem = fun _ => 0) :=
  (θ_run (Cert.ReferenceIdeal.defs (F := Ideal)) _ _).mono
    (fun r h => ⟨fun c => (h c).2, sem_eq_zero_of_no_sems (by decide) r.2⟩) (Cert.ReferenceIdeal.Value.run m g)

/-- The states of the reference's trips. -/
def trips (m : (ℓ : Loc Cert.ReferenceIdeal.nD Cert.ReferenceIdeal.τ Cert.ReferenceIdeal.sig) → Buf (Elt Ideal) ℓ) (c : Dev Cert.ReferenceIdeal.nD) :
    ℕ → Cert.RefStep.State Ideal
  | 0 => Cert.RefStepRun.initState m c
  | n + 1 => Cert.RefStep.step n (trips m c n)

/-- The two results are equal, where the arguments are and the speakers are in range. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hS : ∀ b t, Cert.KVal.sp (Cert.KVal.arg1 m c) b t < 10)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.RefStep.R_main_v7 (trips m' c 50) = Cert.KVal.res m c := by
  have start : Cert.RefValue.Holds (Cert.KVal.W m c) (Cert.KVal.xs (Cert.KVal.arg0 m c)) (Cert.KVal.sp (Cert.KVal.arg1 m c)) 0 (trips m' c 0) := by
    show Cert.RefValue.Holds _ _ _ 0 (Cert.RefStepRun.initState m' c)
    unfold Cert.RefStepRun.initState
    rw [h0, h1, h2, h3, h4, h5]
    refine Cert.RefValue.init_holds _ _ _ _ _ _ _ _ _ hS (fun b t k => ?_) (fun b t => ?_) (fun r k => ?_) (fun r k => ?_) (fun r => ?_) (fun r => ?_)
    · exact (Cert.KVal.xs_apply _ b t k).symm
    · exact (Cert.KVal.sp_apply _ b t).symm
    · exact Cert.KHost.wts_wi _ _ _ _ r k
    · exact Cert.KHost.wts_wh _ _ _ _ r k
    · exact Cert.KHost.wts_bi _ _ _ _ r
    · exact Cert.KHost.wts_bh _ _ _ _ r
  have last := Cert.RefValue.iterate_holds hS (trips m' c) start (fun _ => rfl) 50 (Nat.le_refl _)
  funext i
  obtain ⟨b, t, d, rfl⟩ : ∃ (b : Fin 4096) (t : Fin 50) (d : Fin 64), i = ix3 b t d :=
    ⟨i 0, i 1, i 2, funext fun a => by match a with | ⟨0, _⟩ => rfl | ⟨1, _⟩ => rfl | ⟨2, _⟩ => rfl⟩
  exact (Cert.RefValue.result_apply last b t d).trans (Cert.KVal.res_apply m c b t d).symm

/-- The kernel computes what the reference does. -/
theorem algebraic : Cert.algebraic_KernelIdeal_ReferenceIdeal_pre_in_range := by
  intro m g m' g' hpre hagree
  have hS : ∀ c b t, Cert.KVal.sp (Cert.KVal.arg1 m c) b t < 10 := fun c _ _ => Cert.InRange.speaker_lt _ _ _ _ _ _ (hpre c) _
  refine ⟨fun c => Cert.KVal.res m c, Cert.KVal.run m g hS, ?_⟩
  refine (θ_run (Cert.ReferenceIdeal.defs (F := Ideal)) _ _).mono (fun r h c => ⟨(h c).1.trans ?_, (h c).2⟩)
    (Cert.RefStepRun.run_iter m' g' (trips m') (fun _ => rfl) (fun _ _ => rfl))
  obtain ⟨h0, h1, h2, h3, h4, h5⟩ := hagree c
  exact results_eq m m' c (hS c) h0 h1 h2 h3 h4 h5

theorem claim : Cert.Claim := ⟨Cert.Kernel.Gen.facts, Cert.KernelIdeal.Gen.facts, Cert.ReferenceIdeal.Gen.facts, Cert.InRange.facts,
  fun m g _ => Cert.Kernel.Gen.frame m g, fun m g _ => Cert.KernelIdeal.Gen.frame m g, fun m g _ => Cert.KernelIdeal.Gen.frame m g,
  fun m g _ => ref_frame m g, fun m g _ => ref_frame m g, trivial, algebraic⟩

end Cert.Proof

end
